-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S1024x2048 : Shape := ⟨2, ![1024, 2048]⟩
abbrev S8x2x2048 : Shape := ⟨3, ![8, 2, 2048]⟩
abbrev S8 : Shape := ⟨1, ![8]⟩
abbrev S1 : Shape := ⟨1, ![1]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1x2x2048 : Shape := ⟨3, ![1, 2, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S1024x2048, .f32⟩
  | .local _ .vmem, ⟨2, _⟩ => ⟨S1024x2048, .f32⟩
  | .local _ .vmem, ⟨3, _⟩ => ⟨S2x2048, .bf16⟩
  | .local _ .vmem, ⟨4, _⟩ => ⟨S2x2048, .bf16⟩
  | .local _ .vmem, ⟨5, _⟩ => ⟨S8x2x2048, .bf16⟩
  | .local _ .vmem, ⟨6, _⟩ => ⟨S8x2x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v11 : BitVec 32 := Scalar.muli v10 c1024_i32
  let v12 : BitVec 32 := Scalar.addi v11 c0_i32
  let c0_i32_7 : BitVec 32 := 0#32
  ![v12.toNat, 0]
def k0_dev1 (d0 : Dev nD) : Nat :=
  let c0_i32_116 : BitVec 32 := 0#32
  let c1_i32_108 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.addi c1_i32_108 v2
  let c2_i32_109 : BitVec 32 := 2#32
  let v147 : BitVec 32 := Scalar.muli c2_i32_109 v2
  let v148 : BitVec 32 := Scalar.subi v146 v147
  let c4_i32_115 : BitVec 32 := 4#32
  let v156 : BitVec 32 := Scalar.muli v148 c4_i32_115
  let v157 : BitVec 32 := Scalar.addi c0_i32_116 v156
  let c1_i32_110 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v149 : BitVec 32 := Scalar.addi c1_i32_110 v5
  let c2_i32_111 : BitVec 32 := 2#32
  let v150 : BitVec 32 := Scalar.muli c2_i32_111 v5
  let v151 : BitVec 32 := Scalar.subi v149 v150
  let c2_i32_117 : BitVec 32 := 2#32
  let v158 : BitVec 32 := Scalar.muli v151 c2_i32_117
  let v159 : BitVec 32 := Scalar.addi v157 v158
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.addi c1_i32_112 v8
  let c2_i32_113 : BitVec 32 := 2#32
  let v153 : BitVec 32 := Scalar.muli c2_i32_113 v8
  let v154 : BitVec 32 := Scalar.subi v152 v153
  let c1_i32_118 : BitVec 32 := 1#32
  let v160 : BitVec 32 := Scalar.muli v154 c1_i32_118
  let v161 : BitVec 32 := Scalar.addi v159 v160
  v161.toNat
def k0_dev2 (d0 : Dev nD) : Nat :=
  let c0_i32_121 : BitVec 32 := 0#32
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.addi c0_i32_84 v2
  let c0_i32_85 : BitVec 32 := 0#32
  let v111 : BitVec 32 := Scalar.muli c0_i32_85 v2
  let v112 : BitVec 32 := Scalar.subi v110 v111
  let c4_i32_120 : BitVec 32 := 4#32
  let v162 : BitVec 32 := Scalar.muli v112 c4_i32_120
  let v163 : BitVec 32 := Scalar.addi c0_i32_121 v162
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.addi c1_i32_86 v5
  let c2_i32_87 : BitVec 32 := 2#32
  let v114 : BitVec 32 := Scalar.muli c2_i32_87 v5
  let v115 : BitVec 32 := Scalar.subi v113 v114
  let c2_i32_122 : BitVec 32 := 2#32
  let v164 : BitVec 32 := Scalar.muli v115 c2_i32_122
  let v165 : BitVec 32 := Scalar.addi v163 v164
  let c1_i32_88 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.addi c1_i32_88 v8
  let c2_i32_89 : BitVec 32 := 2#32
  let v117 : BitVec 32 := Scalar.muli c2_i32_89 v8
  let v118 : BitVec 32 := Scalar.subi v116 v117
  let c1_i32_123 : BitVec 32 := 1#32
  let v166 : BitVec 32 := Scalar.muli v118 c1_i32_123
  let v167 : BitVec 32 := Scalar.addi v165 v166
  v167.toNat
def k0_dev3 (d0 : Dev nD) : Nat :=
  let c0_i32_126 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.addi c1_i32_96 v2
  let c2_i32_97 : BitVec 32 := 2#32
  let v129 : BitVec 32 := Scalar.muli c2_i32_97 v2
  let v130 : BitVec 32 := Scalar.subi v128 v129
  let c4_i32_125 : BitVec 32 := 4#32
  let v168 : BitVec 32 := Scalar.muli v130 c4_i32_125
  let v169 : BitVec 32 := Scalar.addi c0_i32_126 v168
  let c0_i32_98 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.addi c0_i32_98 v5
  let c0_i32_99 : BitVec 32 := 0#32
  let v132 : BitVec 32 := Scalar.muli c0_i32_99 v5
  let v133 : BitVec 32 := Scalar.subi v131 v132
  let c2_i32_127 : BitVec 32 := 2#32
  let v170 : BitVec 32 := Scalar.muli v133 c2_i32_127
  let v171 : BitVec 32 := Scalar.addi v169 v170
  let c1_i32_100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v134 : BitVec 32 := Scalar.addi c1_i32_100 v8
  let c2_i32_101 : BitVec 32 := 2#32
  let v135 : BitVec 32 := Scalar.muli c2_i32_101 v8
  let v136 : BitVec 32 := Scalar.subi v134 v135
  let c1_i32_128 : BitVec 32 := 1#32
  let v172 : BitVec 32 := Scalar.muli v136 c1_i32_128
  let v173 : BitVec 32 := Scalar.addi v171 v172
  v173.toNat
def k0_dev4 (d0 : Dev nD) : Nat :=
  let c0_i32_131 : BitVec 32 := 0#32
  let c1_i32_102 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.addi c1_i32_102 v2
  let c2_i32_103 : BitVec 32 := 2#32
  let v138 : BitVec 32 := Scalar.muli c2_i32_103 v2
  let v139 : BitVec 32 := Scalar.subi v137 v138
  let c4_i32_130 : BitVec 32 := 4#32
  let v174 : BitVec 32 := Scalar.muli v139 c4_i32_130
  let v175 : BitVec 32 := Scalar.addi c0_i32_131 v174
  let c1_i32_104 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v140 : BitVec 32 := Scalar.addi c1_i32_104 v5
  let c2_i32_105 : BitVec 32 := 2#32
  let v141 : BitVec 32 := Scalar.muli c2_i32_105 v5
  let v142 : BitVec 32 := Scalar.subi v140 v141
  let c2_i32_132 : BitVec 32 := 2#32
  let v176 : BitVec 32 := Scalar.muli v142 c2_i32_132
  let v177 : BitVec 32 := Scalar.addi v175 v176
  let c0_i32_106 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.addi c0_i32_106 v8
  let c0_i32_107 : BitVec 32 := 0#32
  let v144 : BitVec 32 := Scalar.muli c0_i32_107 v8
  let v145 : BitVec 32 := Scalar.subi v143 v144
  let c1_i32_133 : BitVec 32 := 1#32
  let v178 : BitVec 32 := Scalar.muli v145 c1_i32_133
  let v179 : BitVec 32 := Scalar.addi v177 v178
  v179.toNat
def k0_dev5 (d0 : Dev nD) : Nat :=
  let c0_i32_136 : BitVec 32 := 0#32
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.addi c0_i32_72 v2
  let c0_i32_73 : BitVec 32 := 0#32
  let v93 : BitVec 32 := Scalar.muli c0_i32_73 v2
  let v94 : BitVec 32 := Scalar.subi v92 v93
  let c4_i32_135 : BitVec 32 := 4#32
  let v180 : BitVec 32 := Scalar.muli v94 c4_i32_135
  let v181 : BitVec 32 := Scalar.addi c0_i32_136 v180
  let c0_i32_74 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v95 : BitVec 32 := Scalar.addi c0_i32_74 v5
  let c0_i32_75 : BitVec 32 := 0#32
  let v96 : BitVec 32 := Scalar.muli c0_i32_75 v5
  let v97 : BitVec 32 := Scalar.subi v95 v96
  let c2_i32_137 : BitVec 32 := 2#32
  let v182 : BitVec 32 := Scalar.muli v97 c2_i32_137
  let v183 : BitVec 32 := Scalar.addi v181 v182
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi c1_i32_76 v8
  let c2_i32_77 : BitVec 32 := 2#32
  let v99 : BitVec 32 := Scalar.muli c2_i32_77 v8
  let v100 : BitVec 32 := Scalar.subi v98 v99
  let c1_i32_138 : BitVec 32 := 1#32
  let v184 : BitVec 32 := Scalar.muli v100 c1_i32_138
  let v185 : BitVec 32 := Scalar.addi v183 v184
  v185.toNat
def k0_dev6 (d0 : Dev nD) : Nat :=
  let c0_i32_141 : BitVec 32 := 0#32
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.addi c0_i32_78 v2
  let c0_i32_79 : BitVec 32 := 0#32
  let v102 : BitVec 32 := Scalar.muli c0_i32_79 v2
  let v103 : BitVec 32 := Scalar.subi v101 v102
  let c4_i32_140 : BitVec 32 := 4#32
  let v186 : BitVec 32 := Scalar.muli v103 c4_i32_140
  let v187 : BitVec 32 := Scalar.addi c0_i32_141 v186
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.addi c1_i32_80 v5
  let c2_i32_81 : BitVec 32 := 2#32
  let v105 : BitVec 32 := Scalar.muli c2_i32_81 v5
  let v106 : BitVec 32 := Scalar.subi v104 v105
  let c2_i32_142 : BitVec 32 := 2#32
  let v188 : BitVec 32 := Scalar.muli v106 c2_i32_142
  let v189 : BitVec 32 := Scalar.addi v187 v188
  let c0_i32_82 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.addi c0_i32_82 v8
  let c0_i32_83 : BitVec 32 := 0#32
  let v108 : BitVec 32 := Scalar.muli c0_i32_83 v8
  let v109 : BitVec 32 := Scalar.subi v107 v108
  let c1_i32_143 : BitVec 32 := 1#32
  let v190 : BitVec 32 := Scalar.muli v109 c1_i32_143
  let v191 : BitVec 32 := Scalar.addi v189 v190
  v191.toNat
def k0_dev7 (d0 : Dev nD) : Nat :=
  let c0_i32_146 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.addi c1_i32_90 v2
  let c2_i32_91 : BitVec 32 := 2#32
  let v120 : BitVec 32 := Scalar.muli c2_i32_91 v2
  let v121 : BitVec 32 := Scalar.subi v119 v120
  let c4_i32_145 : BitVec 32 := 4#32
  let v192 : BitVec 32 := Scalar.muli v121 c4_i32_145
  let v193 : BitVec 32 := Scalar.addi c0_i32_146 v192
  let c0_i32_92 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v122 : BitVec 32 := Scalar.addi c0_i32_92 v5
  let c0_i32_93 : BitVec 32 := 0#32
  let v123 : BitVec 32 := Scalar.muli c0_i32_93 v5
  let v124 : BitVec 32 := Scalar.subi v122 v123
  let c2_i32_147 : BitVec 32 := 2#32
  let v194 : BitVec 32 := Scalar.muli v124 c2_i32_147
  let v195 : BitVec 32 := Scalar.addi v193 v194
  let c0_i32_94 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.addi c0_i32_94 v8
  let c0_i32_95 : BitVec 32 := 0#32
  let v126 : BitVec 32 := Scalar.muli c0_i32_95 v8
  let v127 : BitVec 32 := Scalar.subi v125 v126
  let c1_i32_148 : BitVec 32 := 1#32
  let v196 : BitVec 32 := Scalar.muli v127 c1_i32_148
  let v197 : BitVec 32 := Scalar.addi v195 v196
  v197.toNat
def k0_dev8 (d0 : Dev nD) : Nat :=
  let c0_i32_264 : BitVec 32 := 0#32
  let c1_i32_108 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.addi c1_i32_108 v2
  let c2_i32_109 : BitVec 32 := 2#32
  let v147 : BitVec 32 := Scalar.muli c2_i32_109 v2
  let v148 : BitVec 32 := Scalar.subi v146 v147
  let c4_i32_263 : BitVec 32 := 4#32
  let v390 : BitVec 32 := Scalar.muli v148 c4_i32_263
  let v391 : BitVec 32 := Scalar.addi c0_i32_264 v390
  let c1_i32_110 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v149 : BitVec 32 := Scalar.addi c1_i32_110 v5
  let c2_i32_111 : BitVec 32 := 2#32
  let v150 : BitVec 32 := Scalar.muli c2_i32_111 v5
  let v151 : BitVec 32 := Scalar.subi v149 v150
  let c2_i32_265 : BitVec 32 := 2#32
  let v392 : BitVec 32 := Scalar.muli v151 c2_i32_265
  let v393 : BitVec 32 := Scalar.addi v391 v392
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.addi c1_i32_112 v8
  let c2_i32_113 : BitVec 32 := 2#32
  let v153 : BitVec 32 := Scalar.muli c2_i32_113 v8
  let v154 : BitVec 32 := Scalar.subi v152 v153
  let c1_i32_266 : BitVec 32 := 1#32
  let v394 : BitVec 32 := Scalar.muli v154 c1_i32_266
  let v395 : BitVec 32 := Scalar.addi v393 v394
  v395.toNat
def k0_dev9 (d0 : Dev nD) : Nat :=
  let c0_i32_273 : BitVec 32 := 0#32
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.addi c0_i32_84 v2
  let c0_i32_85 : BitVec 32 := 0#32
  let v111 : BitVec 32 := Scalar.muli c0_i32_85 v2
  let v112 : BitVec 32 := Scalar.subi v110 v111
  let c4_i32_272 : BitVec 32 := 4#32
  let v402 : BitVec 32 := Scalar.muli v112 c4_i32_272
  let v403 : BitVec 32 := Scalar.addi c0_i32_273 v402
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.addi c1_i32_86 v5
  let c2_i32_87 : BitVec 32 := 2#32
  let v114 : BitVec 32 := Scalar.muli c2_i32_87 v5
  let v115 : BitVec 32 := Scalar.subi v113 v114
  let c2_i32_274 : BitVec 32 := 2#32
  let v404 : BitVec 32 := Scalar.muli v115 c2_i32_274
  let v405 : BitVec 32 := Scalar.addi v403 v404
  let c1_i32_88 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.addi c1_i32_88 v8
  let c2_i32_89 : BitVec 32 := 2#32
  let v117 : BitVec 32 := Scalar.muli c2_i32_89 v8
  let v118 : BitVec 32 := Scalar.subi v116 v117
  let c1_i32_275 : BitVec 32 := 1#32
  let v406 : BitVec 32 := Scalar.muli v118 c1_i32_275
  let v407 : BitVec 32 := Scalar.addi v405 v406
  v407.toNat
def k0_dev10 (d0 : Dev nD) : Nat :=
  let c0_i32_282 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.addi c1_i32_96 v2
  let c2_i32_97 : BitVec 32 := 2#32
  let v129 : BitVec 32 := Scalar.muli c2_i32_97 v2
  let v130 : BitVec 32 := Scalar.subi v128 v129
  let c4_i32_281 : BitVec 32 := 4#32
  let v414 : BitVec 32 := Scalar.muli v130 c4_i32_281
  let v415 : BitVec 32 := Scalar.addi c0_i32_282 v414
  let c0_i32_98 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.addi c0_i32_98 v5
  let c0_i32_99 : BitVec 32 := 0#32
  let v132 : BitVec 32 := Scalar.muli c0_i32_99 v5
  let v133 : BitVec 32 := Scalar.subi v131 v132
  let c2_i32_283 : BitVec 32 := 2#32
  let v416 : BitVec 32 := Scalar.muli v133 c2_i32_283
  let v417 : BitVec 32 := Scalar.addi v415 v416
  let c1_i32_100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v134 : BitVec 32 := Scalar.addi c1_i32_100 v8
  let c2_i32_101 : BitVec 32 := 2#32
  let v135 : BitVec 32 := Scalar.muli c2_i32_101 v8
  let v136 : BitVec 32 := Scalar.subi v134 v135
  let c1_i32_284 : BitVec 32 := 1#32
  let v418 : BitVec 32 := Scalar.muli v136 c1_i32_284
  let v419 : BitVec 32 := Scalar.addi v417 v418
  v419.toNat
def k0_dev11 (d0 : Dev nD) : Nat :=
  let c0_i32_291 : BitVec 32 := 0#32
  let c1_i32_102 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.addi c1_i32_102 v2
  let c2_i32_103 : BitVec 32 := 2#32
  let v138 : BitVec 32 := Scalar.muli c2_i32_103 v2
  let v139 : BitVec 32 := Scalar.subi v137 v138
  let c4_i32_290 : BitVec 32 := 4#32
  let v426 : BitVec 32 := Scalar.muli v139 c4_i32_290
  let v427 : BitVec 32 := Scalar.addi c0_i32_291 v426
  let c1_i32_104 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v140 : BitVec 32 := Scalar.addi c1_i32_104 v5
  let c2_i32_105 : BitVec 32 := 2#32
  let v141 : BitVec 32 := Scalar.muli c2_i32_105 v5
  let v142 : BitVec 32 := Scalar.subi v140 v141
  let c2_i32_292 : BitVec 32 := 2#32
  let v428 : BitVec 32 := Scalar.muli v142 c2_i32_292
  let v429 : BitVec 32 := Scalar.addi v427 v428
  let c0_i32_106 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.addi c0_i32_106 v8
  let c0_i32_107 : BitVec 32 := 0#32
  let v144 : BitVec 32 := Scalar.muli c0_i32_107 v8
  let v145 : BitVec 32 := Scalar.subi v143 v144
  let c1_i32_293 : BitVec 32 := 1#32
  let v430 : BitVec 32 := Scalar.muli v145 c1_i32_293
  let v431 : BitVec 32 := Scalar.addi v429 v430
  v431.toNat
def k0_dev12 (d0 : Dev nD) : Nat :=
  let c0_i32_300 : BitVec 32 := 0#32
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.addi c0_i32_72 v2
  let c0_i32_73 : BitVec 32 := 0#32
  let v93 : BitVec 32 := Scalar.muli c0_i32_73 v2
  let v94 : BitVec 32 := Scalar.subi v92 v93
  let c4_i32_299 : BitVec 32 := 4#32
  let v438 : BitVec 32 := Scalar.muli v94 c4_i32_299
  let v439 : BitVec 32 := Scalar.addi c0_i32_300 v438
  let c0_i32_74 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v95 : BitVec 32 := Scalar.addi c0_i32_74 v5
  let c0_i32_75 : BitVec 32 := 0#32
  let v96 : BitVec 32 := Scalar.muli c0_i32_75 v5
  let v97 : BitVec 32 := Scalar.subi v95 v96
  let c2_i32_301 : BitVec 32 := 2#32
  let v440 : BitVec 32 := Scalar.muli v97 c2_i32_301
  let v441 : BitVec 32 := Scalar.addi v439 v440
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi c1_i32_76 v8
  let c2_i32_77 : BitVec 32 := 2#32
  let v99 : BitVec 32 := Scalar.muli c2_i32_77 v8
  let v100 : BitVec 32 := Scalar.subi v98 v99
  let c1_i32_302 : BitVec 32 := 1#32
  let v442 : BitVec 32 := Scalar.muli v100 c1_i32_302
  let v443 : BitVec 32 := Scalar.addi v441 v442
  v443.toNat
def k0_dev13 (d0 : Dev nD) : Nat :=
  let c0_i32_309 : BitVec 32 := 0#32
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.addi c0_i32_78 v2
  let c0_i32_79 : BitVec 32 := 0#32
  let v102 : BitVec 32 := Scalar.muli c0_i32_79 v2
  let v103 : BitVec 32 := Scalar.subi v101 v102
  let c4_i32_308 : BitVec 32 := 4#32
  let v450 : BitVec 32 := Scalar.muli v103 c4_i32_308
  let v451 : BitVec 32 := Scalar.addi c0_i32_309 v450
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.addi c1_i32_80 v5
  let c2_i32_81 : BitVec 32 := 2#32
  let v105 : BitVec 32 := Scalar.muli c2_i32_81 v5
  let v106 : BitVec 32 := Scalar.subi v104 v105
  let c2_i32_310 : BitVec 32 := 2#32
  let v452 : BitVec 32 := Scalar.muli v106 c2_i32_310
  let v453 : BitVec 32 := Scalar.addi v451 v452
  let c0_i32_82 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.addi c0_i32_82 v8
  let c0_i32_83 : BitVec 32 := 0#32
  let v108 : BitVec 32 := Scalar.muli c0_i32_83 v8
  let v109 : BitVec 32 := Scalar.subi v107 v108
  let c1_i32_311 : BitVec 32 := 1#32
  let v454 : BitVec 32 := Scalar.muli v109 c1_i32_311
  let v455 : BitVec 32 := Scalar.addi v453 v454
  v455.toNat
def k0_dev14 (d0 : Dev nD) : Nat :=
  let c0_i32_318 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.addi c1_i32_90 v2
  let c2_i32_91 : BitVec 32 := 2#32
  let v120 : BitVec 32 := Scalar.muli c2_i32_91 v2
  let v121 : BitVec 32 := Scalar.subi v119 v120
  let c4_i32_317 : BitVec 32 := 4#32
  let v462 : BitVec 32 := Scalar.muli v121 c4_i32_317
  let v463 : BitVec 32 := Scalar.addi c0_i32_318 v462
  let c0_i32_92 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v122 : BitVec 32 := Scalar.addi c0_i32_92 v5
  let c0_i32_93 : BitVec 32 := 0#32
  let v123 : BitVec 32 := Scalar.muli c0_i32_93 v5
  let v124 : BitVec 32 := Scalar.subi v122 v123
  let c2_i32_319 : BitVec 32 := 2#32
  let v464 : BitVec 32 := Scalar.muli v124 c2_i32_319
  let v465 : BitVec 32 := Scalar.addi v463 v464
  let c0_i32_94 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.addi c0_i32_94 v8
  let c0_i32_95 : BitVec 32 := 0#32
  let v126 : BitVec 32 := Scalar.muli c0_i32_95 v8
  let v127 : BitVec 32 := Scalar.subi v125 v126
  let c1_i32_320 : BitVec 32 := 1#32
  let v466 : BitVec 32 := Scalar.muli v127 c1_i32_320
  let v467 : BitVec 32 := Scalar.addi v465 v466
  v467.toNat
def k0_dev15 (d0 : Dev nD) : Nat :=
  let c0_i32_367 : BitVec 32 := 0#32
  let c1_i32_108 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.addi c1_i32_108 v2
  let c2_i32_109 : BitVec 32 := 2#32
  let v147 : BitVec 32 := Scalar.muli c2_i32_109 v2
  let v148 : BitVec 32 := Scalar.subi v146 v147
  let c4_i32_366 : BitVec 32 := 4#32
  let v542 : BitVec 32 := Scalar.muli v148 c4_i32_366
  let v543 : BitVec 32 := Scalar.addi c0_i32_367 v542
  let c1_i32_110 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v149 : BitVec 32 := Scalar.addi c1_i32_110 v5
  let c2_i32_111 : BitVec 32 := 2#32
  let v150 : BitVec 32 := Scalar.muli c2_i32_111 v5
  let v151 : BitVec 32 := Scalar.subi v149 v150
  let c2_i32_368 : BitVec 32 := 2#32
  let v544 : BitVec 32 := Scalar.muli v151 c2_i32_368
  let v545 : BitVec 32 := Scalar.addi v543 v544
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.addi c1_i32_112 v8
  let c2_i32_113 : BitVec 32 := 2#32
  let v153 : BitVec 32 := Scalar.muli c2_i32_113 v8
  let v154 : BitVec 32 := Scalar.subi v152 v153
  let c1_i32_369 : BitVec 32 := 1#32
  let v546 : BitVec 32 := Scalar.muli v154 c1_i32_369
  let v547 : BitVec 32 := Scalar.addi v545 v546
  v547.toNat
def k0_dev16 (d0 : Dev nD) : Nat :=
  let c0_i32_376 : BitVec 32 := 0#32
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.addi c0_i32_84 v2
  let c0_i32_85 : BitVec 32 := 0#32
  let v111 : BitVec 32 := Scalar.muli c0_i32_85 v2
  let v112 : BitVec 32 := Scalar.subi v110 v111
  let c4_i32_375 : BitVec 32 := 4#32
  let v554 : BitVec 32 := Scalar.muli v112 c4_i32_375
  let v555 : BitVec 32 := Scalar.addi c0_i32_376 v554
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.addi c1_i32_86 v5
  let c2_i32_87 : BitVec 32 := 2#32
  let v114 : BitVec 32 := Scalar.muli c2_i32_87 v5
  let v115 : BitVec 32 := Scalar.subi v113 v114
  let c2_i32_377 : BitVec 32 := 2#32
  let v556 : BitVec 32 := Scalar.muli v115 c2_i32_377
  let v557 : BitVec 32 := Scalar.addi v555 v556
  let c1_i32_88 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.addi c1_i32_88 v8
  let c2_i32_89 : BitVec 32 := 2#32
  let v117 : BitVec 32 := Scalar.muli c2_i32_89 v8
  let v118 : BitVec 32 := Scalar.subi v116 v117
  let c1_i32_378 : BitVec 32 := 1#32
  let v558 : BitVec 32 := Scalar.muli v118 c1_i32_378
  let v559 : BitVec 32 := Scalar.addi v557 v558
  v559.toNat
def k0_dev17 (d0 : Dev nD) : Nat :=
  let c0_i32_385 : BitVec 32 := 0#32
  let c1_i32_96 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.addi c1_i32_96 v2
  let c2_i32_97 : BitVec 32 := 2#32
  let v129 : BitVec 32 := Scalar.muli c2_i32_97 v2
  let v130 : BitVec 32 := Scalar.subi v128 v129
  let c4_i32_384 : BitVec 32 := 4#32
  let v566 : BitVec 32 := Scalar.muli v130 c4_i32_384
  let v567 : BitVec 32 := Scalar.addi c0_i32_385 v566
  let c0_i32_98 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.addi c0_i32_98 v5
  let c0_i32_99 : BitVec 32 := 0#32
  let v132 : BitVec 32 := Scalar.muli c0_i32_99 v5
  let v133 : BitVec 32 := Scalar.subi v131 v132
  let c2_i32_386 : BitVec 32 := 2#32
  let v568 : BitVec 32 := Scalar.muli v133 c2_i32_386
  let v569 : BitVec 32 := Scalar.addi v567 v568
  let c1_i32_100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v134 : BitVec 32 := Scalar.addi c1_i32_100 v8
  let c2_i32_101 : BitVec 32 := 2#32
  let v135 : BitVec 32 := Scalar.muli c2_i32_101 v8
  let v136 : BitVec 32 := Scalar.subi v134 v135
  let c1_i32_387 : BitVec 32 := 1#32
  let v570 : BitVec 32 := Scalar.muli v136 c1_i32_387
  let v571 : BitVec 32 := Scalar.addi v569 v570
  v571.toNat
def k0_dev18 (d0 : Dev nD) : Nat :=
  let c0_i32_394 : BitVec 32 := 0#32
  let c1_i32_102 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.addi c1_i32_102 v2
  let c2_i32_103 : BitVec 32 := 2#32
  let v138 : BitVec 32 := Scalar.muli c2_i32_103 v2
  let v139 : BitVec 32 := Scalar.subi v137 v138
  let c4_i32_393 : BitVec 32 := 4#32
  let v578 : BitVec 32 := Scalar.muli v139 c4_i32_393
  let v579 : BitVec 32 := Scalar.addi c0_i32_394 v578
  let c1_i32_104 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v140 : BitVec 32 := Scalar.addi c1_i32_104 v5
  let c2_i32_105 : BitVec 32 := 2#32
  let v141 : BitVec 32 := Scalar.muli c2_i32_105 v5
  let v142 : BitVec 32 := Scalar.subi v140 v141
  let c2_i32_395 : BitVec 32 := 2#32
  let v580 : BitVec 32 := Scalar.muli v142 c2_i32_395
  let v581 : BitVec 32 := Scalar.addi v579 v580
  let c0_i32_106 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.addi c0_i32_106 v8
  let c0_i32_107 : BitVec 32 := 0#32
  let v144 : BitVec 32 := Scalar.muli c0_i32_107 v8
  let v145 : BitVec 32 := Scalar.subi v143 v144
  let c1_i32_396 : BitVec 32 := 1#32
  let v582 : BitVec 32 := Scalar.muli v145 c1_i32_396
  let v583 : BitVec 32 := Scalar.addi v581 v582
  v583.toNat
def k0_dev19 (d0 : Dev nD) : Nat :=
  let c0_i32_403 : BitVec 32 := 0#32
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.addi c0_i32_72 v2
  let c0_i32_73 : BitVec 32 := 0#32
  let v93 : BitVec 32 := Scalar.muli c0_i32_73 v2
  let v94 : BitVec 32 := Scalar.subi v92 v93
  let c4_i32_402 : BitVec 32 := 4#32
  let v590 : BitVec 32 := Scalar.muli v94 c4_i32_402
  let v591 : BitVec 32 := Scalar.addi c0_i32_403 v590
  let c0_i32_74 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v95 : BitVec 32 := Scalar.addi c0_i32_74 v5
  let c0_i32_75 : BitVec 32 := 0#32
  let v96 : BitVec 32 := Scalar.muli c0_i32_75 v5
  let v97 : BitVec 32 := Scalar.subi v95 v96
  let c2_i32_404 : BitVec 32 := 2#32
  let v592 : BitVec 32 := Scalar.muli v97 c2_i32_404
  let v593 : BitVec 32 := Scalar.addi v591 v592
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi c1_i32_76 v8
  let c2_i32_77 : BitVec 32 := 2#32
  let v99 : BitVec 32 := Scalar.muli c2_i32_77 v8
  let v100 : BitVec 32 := Scalar.subi v98 v99
  let c1_i32_405 : BitVec 32 := 1#32
  let v594 : BitVec 32 := Scalar.muli v100 c1_i32_405
  let v595 : BitVec 32 := Scalar.addi v593 v594
  v595.toNat
def k0_dev20 (d0 : Dev nD) : Nat :=
  let c0_i32_412 : BitVec 32 := 0#32
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.addi c0_i32_78 v2
  let c0_i32_79 : BitVec 32 := 0#32
  let v102 : BitVec 32 := Scalar.muli c0_i32_79 v2
  let v103 : BitVec 32 := Scalar.subi v101 v102
  let c4_i32_411 : BitVec 32 := 4#32
  let v602 : BitVec 32 := Scalar.muli v103 c4_i32_411
  let v603 : BitVec 32 := Scalar.addi c0_i32_412 v602
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.addi c1_i32_80 v5
  let c2_i32_81 : BitVec 32 := 2#32
  let v105 : BitVec 32 := Scalar.muli c2_i32_81 v5
  let v106 : BitVec 32 := Scalar.subi v104 v105
  let c2_i32_413 : BitVec 32 := 2#32
  let v604 : BitVec 32 := Scalar.muli v106 c2_i32_413
  let v605 : BitVec 32 := Scalar.addi v603 v604
  let c0_i32_82 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.addi c0_i32_82 v8
  let c0_i32_83 : BitVec 32 := 0#32
  let v108 : BitVec 32 := Scalar.muli c0_i32_83 v8
  let v109 : BitVec 32 := Scalar.subi v107 v108
  let c1_i32_414 : BitVec 32 := 1#32
  let v606 : BitVec 32 := Scalar.muli v109 c1_i32_414
  let v607 : BitVec 32 := Scalar.addi v605 v606
  v607.toNat
def k0_dev21 (d0 : Dev nD) : Nat :=
  let c0_i32_421 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.addi c1_i32_90 v2
  let c2_i32_91 : BitVec 32 := 2#32
  let v120 : BitVec 32 := Scalar.muli c2_i32_91 v2
  let v121 : BitVec 32 := Scalar.subi v119 v120
  let c4_i32_420 : BitVec 32 := 4#32
  let v614 : BitVec 32 := Scalar.muli v121 c4_i32_420
  let v615 : BitVec 32 := Scalar.addi c0_i32_421 v614
  let c0_i32_92 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v122 : BitVec 32 := Scalar.addi c0_i32_92 v5
  let c0_i32_93 : BitVec 32 := 0#32
  let v123 : BitVec 32 := Scalar.muli c0_i32_93 v5
  let v124 : BitVec 32 := Scalar.subi v122 v123
  let c2_i32_422 : BitVec 32 := 2#32
  let v616 : BitVec 32 := Scalar.muli v124 c2_i32_422
  let v617 : BitVec 32 := Scalar.addi v615 v616
  let c0_i32_94 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.addi c0_i32_94 v8
  let c0_i32_95 : BitVec 32 := 0#32
  let v126 : BitVec 32 := Scalar.muli c0_i32_95 v8
  let v127 : BitVec 32 := Scalar.subi v125 v126
  let c1_i32_423 : BitVec 32 := 1#32
  let v618 : BitVec 32 := Scalar.muli v127 c1_i32_423
  let v619 : BitVec 32 := Scalar.addi v617 v618
  v619.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelIdealSched.lean ====
/-
The protocol of the kernel: the mesh's exclusive-or partners, the memrefs and semaphore cells, the contents every
copy lands, the schedule of duties on the cells, what each core owes at launch and the levels of the cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.Writes

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's own rounds: a cell's duties are named by the mesh offset `s` of the partner that pays them. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## Partners -/

set_option backward.proofsInPublic true in
/-- The partner of device `c` at mesh offset `s`: the coordinates named by the bits of `s` flipped. -/
def peer (c : Dev nD) (s : Fin 8) : Dev nD := ⟨(c.val ^^^ s.val) % 8, Nat.mod_lt _ (by decide)⟩

/-- Flipping twice gives the device back. -/
theorem peer_peer (c : Dev nD) (s : Fin 8) : peer (peer c s) s = c := by revert c s; decide
/-- For a device and a partner the offset is unique. -/
theorem peer_inj (c : Dev nD) : Function.Injective (peer c) := by revert c; decide

/-- The device that step 1 of the signals and copies names. -/
theorem dev1_eq (c : Dev nD) : (⟨k0_dev1 c, k0_dev1_lt c⟩ : Dev nD) = peer c 7 := by revert c; decide
/-- The device that step 2 of the signals and copies names. -/
theorem dev2_eq (c : Dev nD) : (⟨k0_dev2 c, k0_dev2_lt c⟩ : Dev nD) = peer c 3 := by revert c; decide
/-- The device that step 3 of the signals and copies names. -/
theorem dev3_eq (c : Dev nD) : (⟨k0_dev3 c, k0_dev3_lt c⟩ : Dev nD) = peer c 5 := by revert c; decide
/-- The device that step 4 of the signals and copies names. -/
theorem dev4_eq (c : Dev nD) : (⟨k0_dev4 c, k0_dev4_lt c⟩ : Dev nD) = peer c 6 := by revert c; decide
/-- The device that step 5 of the signals and copies names. -/
theorem dev5_eq (c : Dev nD) : (⟨k0_dev5 c, k0_dev5_lt c⟩ : Dev nD) = peer c 1 := by revert c; decide
/-- The device that step 6 of the signals and copies names. -/
theorem dev6_eq (c : Dev nD) : (⟨k0_dev6 c, k0_dev6_lt c⟩ : Dev nD) = peer c 2 := by revert c; decide
/-- The device that step 7 of the signals and copies names. -/
theorem dev7_eq (c : Dev nD) : (⟨k0_dev7 c, k0_dev7_lt c⟩ : Dev nD) = peer c 4 := by revert c; decide
/-- The device that step 8 of the signals and copies names. -/
theorem dev8_eq (c : Dev nD) : (⟨k0_dev8 c, k0_dev8_lt c⟩ : Dev nD) = peer c 7 := by revert c; decide
/-- The device that step 9 of the signals and copies names. -/
theorem dev9_eq (c : Dev nD) : (⟨k0_dev9 c, k0_dev9_lt c⟩ : Dev nD) = peer c 3 := by revert c; decide
/-- The device that step 10 of the signals and copies names. -/
theorem dev10_eq (c : Dev nD) : (⟨k0_dev10 c, k0_dev10_lt c⟩ : Dev nD) = peer c 5 := by revert c; decide
/-- The device that step 11 of the signals and copies names. -/
theorem dev11_eq (c : Dev nD) : (⟨k0_dev11 c, k0_dev11_lt c⟩ : Dev nD) = peer c 6 := by revert c; decide
/-- The device that step 12 of the signals and copies names. -/
theorem dev12_eq (c : Dev nD) : (⟨k0_dev12 c, k0_dev12_lt c⟩ : Dev nD) = peer c 1 := by revert c; decide
/-- The device that step 13 of the signals and copies names. -/
theorem dev13_eq (c : Dev nD) : (⟨k0_dev13 c, k0_dev13_lt c⟩ : Dev nD) = peer c 2 := by revert c; decide
/-- The device that step 14 of the signals and copies names. -/
theorem dev14_eq (c : Dev nD) : (⟨k0_dev14 c, k0_dev14_lt c⟩ : Dev nD) = peer c 4 := by revert c; decide
/-- The device that step 15 of the signals and copies names. -/
theorem dev15_eq (c : Dev nD) : (⟨k0_dev15 c, k0_dev15_lt c⟩ : Dev nD) = peer c 7 := by revert c; decide
/-- The device that step 16 of the signals and copies names. -/
theorem dev16_eq (c : Dev nD) : (⟨k0_dev16 c, k0_dev16_lt c⟩ : Dev nD) = peer c 3 := by revert c; decide
/-- The device that step 17 of the signals and copies names. -/
theorem dev17_eq (c : Dev nD) : (⟨k0_dev17 c, k0_dev17_lt c⟩ : Dev nD) = peer c 5 := by revert c; decide
/-- The device that step 18 of the signals and copies names. -/
theorem dev18_eq (c : Dev nD) : (⟨k0_dev18 c, k0_dev18_lt c⟩ : Dev nD) = peer c 6 := by revert c; decide
/-- The device that step 19 of the signals and copies names. -/
theorem dev19_eq (c : Dev nD) : (⟨k0_dev19 c, k0_dev19_lt c⟩ : Dev nD) = peer c 1 := by revert c; decide
/-- The device that step 20 of the signals and copies names. -/
theorem dev20_eq (c : Dev nD) : (⟨k0_dev20 c, k0_dev20_lt c⟩ : Dev nD) = peer c 2 := by revert c; decide
/-- The device that step 21 of the signals and copies names. -/
theorem dev21_eq (c : Dev nD) : (⟨k0_dev21 c, k0_dev21_lt c⟩ : Dev nD) = peer c 4 := by revert c; decide

/-! ## The memrefs -/

abbrev xM : Memref sig .tc .hbm S4096x2048 .f32 := Memref.whole main_arg0
abbrev yM : Memref sig .tc .hbm S4096x2048 .f32 := Memref.whole main_arg1
abbrev oM : Memref sig .tc .vmem S2x2048 .f32 := Memref.whole cc0_stg0_0
abbrev xqM : Memref sig .tc .vmem S1024x2048 .f32 := Memref.whole cc0_scratch0
abbrev yqM : Memref sig .tc .vmem S1024x2048 .f32 := Memref.whole cc0_scratch1
abbrev accAM : Memref sig .tc .vmem S2x2048 .bf16 := Memref.whole cc0_scratch2
abbrev accBM : Memref sig .tc .vmem S2x2048 .bf16 := Memref.whole cc0_scratch3
abbrev bufAM : Memref sig .tc .vmem S8x2x2048 .bf16 := Memref.whole cc0_scratch4
abbrev bufBM : Memref sig .tc .vmem S8x2x2048 .bf16 := Memref.whole cc0_scratch5

/-- A chunk of 128 rows lies within the 1024 rows of a staging quarter, -/
theorem inbW (k : Fin 8) : ∀ a, (![128 * k.val, 0] : Fin 2 → ℕ) a + S128x2048.size a ≤ S1024x2048.size a := by revert k; decide
/-- a slot within the eight, -/
theorem inbS (s : Fin 8) : ∀ a, (![s.val, 0, 0] : Fin 3 → ℕ) a + S1x2x2048.size a ≤ S8x2x2048.size a := by revert s; decide
/-- and a semaphore within its array. -/
theorem inbD (k : Fin 8) : ∀ a, (![k.val] : Fin 1 → ℕ) a + S1.size a ≤ S8.size a := by revert k; decide

/-- The rectangle of chunk `k` in a staging quarter. -/
abbrev rW (k : Fin 8) : Rect S1024x2048 := Rect.unit (s := S1024x2048) ![128 * k.val, 0] S128x2048.size (inbW k)
/-- The rectangle of slot `s` in a landing buffer. -/
abbrev rS (s : Fin 8) : Rect S8x2x2048 := Rect.unit (s := S8x2x2048) ![s.val, 0, 0] S1x2x2048.size (inbS s)
/-- The rows of an argument that device `c` fetches as chunk `k`. -/
abbrev rG (c : Dev nD) (k : Fin 8) : Rect S4096x2048 :=
  Rect.unit (s := S4096x2048) (k0_off1 c (BitVec.ofNat 32 (128 * k.val))) S128x2048.size (k0_off1_inb c k)

abbrev xSrc (c : Dev nD) (k : Fin 8) : Memref sig .tc .hbm S128x2048 .f32 := xM.slice (rG c k) (fun _ => rfl)
abbrev ySrc (c : Dev nD) (k : Fin 8) : Memref sig .tc .hbm S128x2048 .f32 := yM.slice (rG c k) (fun _ => rfl)
abbrev xDst (k : Fin 8) : Memref sig .tc .vmem S128x2048 .f32 := xqM.slice (rW k) (fun _ => rfl)
abbrev yDst (k : Fin 8) : Memref sig .tc .vmem S128x2048 .f32 := yqM.slice (rW k) (fun _ => rfl)
abbrev slotA (s : Fin 8) : Memref sig .tc .vmem S2x2048 .bf16 := (bufAM.slice (rS s) (fun _ => rfl)).squeeze S2x2048 squeezes_S1x2x2048_S2x2048
abbrev slotB (s : Fin 8) : Memref sig .tc .vmem S2x2048 .bf16 := (bufBM.slice (rS s) (fun _ => rfl)).squeeze S2x2048 squeezes_S1x2x2048_S2x2048

/-! ## The cells -/

/-- The runtime's barrier semaphore of this collective. -/
abbrev barS : Sem sig := (SemArray.scalar (sig.barrier 0 rfl) : Sems sig S_).sem
/-- Semaphore `k` of an array of eight. -/
abbrev semAt (A : DmaSems sig S8) (k : Fin 8) : DmaSem sig :=
  ((A.slice (Rect.unit (s := S8) ![k.val] S1.size (inbD k))).squeeze S_ squeezes_S1_S_).sem

abbrev barC (c : Dev nD) : GSem nD τ sig := ((c : Thread nD τ), .reg barS)
abbrev cellAt (c : Dev nD) (A : DmaSems sig S8) (k : Fin 8) : GSem nD τ sig := ((c : Thread nD τ), .dma (semAt A k))
abbrev xC (c : Dev nD) (k : Fin 8) : GSem nD τ sig := cellAt c cc0_scratch6 k
abbrev yC (c : Dev nD) (k : Fin 8) : GSem nD τ sig := cellAt c cc0_scratch7 k
abbrev sAC (c : Dev nD) (k : Fin 8) : GSem nD τ sig := cellAt c cc0_scratch8 k
abbrev rAC (c : Dev nD) (k : Fin 8) : GSem nD τ sig := cellAt c cc0_scratch9 k
abbrev sBC (c : Dev nD) (k : Fin 8) : GSem nD τ sig := cellAt c cc0_scratch10 k
abbrev rBC (c : Dev nD) (k : Fin 8) : GSem nD τ sig := cellAt c cc0_scratch11 k

/-- The number of the array a DMA semaphore belongs to (0 for the result's staging semaphore), -/
def arrOf (q : DmaSem sig) : ℕ := (q.val + 7) / 8
/-- and its place in that array. -/
def idxOf (q : DmaSem sig) : Fin 8 := ⟨(q.val + 7) % 8, Nat.mod_lt _ (by decide)⟩

/-- The array that a semaphore of the `x` fetches belongs to, -/
theorem arr_x (k : Fin 8) : arrOf (semAt cc0_scratch6 k) = 1 := by revert k; decide
/-- one of the `dy` fetches, -/
theorem arr_y (k : Fin 8) : arrOf (semAt cc0_scratch7 k) = 2 := by revert k; decide
/-- of the first accumulator's sends, -/
theorem arr_sA (k : Fin 8) : arrOf (semAt cc0_scratch8 k) = 3 := by revert k; decide
/-- of its arrivals, -/
theorem arr_rA (k : Fin 8) : arrOf (semAt cc0_scratch9 k) = 4 := by revert k; decide
/-- of the second accumulator's sends -/
theorem arr_sB (k : Fin 8) : arrOf (semAt cc0_scratch10 k) = 5 := by revert k; decide
/-- and of its arrivals. -/
theorem arr_rB (k : Fin 8) : arrOf (semAt cc0_scratch11 k) = 6 := by revert k; decide
/-- And its place in the array: for the `x` fetches, -/
theorem idx_x (k : Fin 8) : idxOf (semAt cc0_scratch6 k) = k := by revert k; decide
/-- the `dy` fetches, -/
theorem idx_y (k : Fin 8) : idxOf (semAt cc0_scratch7 k) = k := by revert k; decide
/-- the first accumulator's sends, -/
theorem idx_sA (k : Fin 8) : idxOf (semAt cc0_scratch8 k) = k := by revert k; decide
/-- its arrivals, -/
theorem idx_rA (k : Fin 8) : idxOf (semAt cc0_scratch9 k) = k := by revert k; decide
/-- the second accumulator's sends -/
theorem idx_sB (k : Fin 8) : idxOf (semAt cc0_scratch10 k) = k := by revert k; decide
/-- and its arrivals. -/
theorem idx_rB (k : Fin 8) : idxOf (semAt cc0_scratch11 k) = k := by revert k; decide

/-- The credit of a fetched chunk and of a remote copy. -/
abbrev NX : ℕ := (xDst 0).view.dmaCredit
abbrev NA : ℕ := (slotA 0).view.dmaCredit
/-- A fetch is worth something, -/
theorem NX_pos : 0 < NX := View.dmaCredit_pos _ (by decide)
/-- and so is a remote copy. -/
theorem NA_pos : 0 < NA := View.dmaCredit_pos _ (by decide)
/-- Every fetch of `x` is worth the same, -/
theorem xCredit (k : Fin 8) : (xDst k).view.dmaCredit = NX := rfl
/-- and every fetch of `dy`; -/
theorem yCredit (k : Fin 8) : (yDst k).view.dmaCredit = NX := rfl
/-- every copy into a slot of the first landing buffer is worth the same, -/
theorem aCredit (k : Fin 8) : (slotA k).view.dmaCredit = NA := rfl
/-- and of the second, -/
theorem bCredit (k : Fin 8) : (slotB k).view.dmaCredit = NA := rfl
/-- and so is the first accumulator's whole, -/
theorem accACredit : accAM.view.dmaCredit = NA := rfl
/-- and the second's. -/
theorem accBCredit : accBM.view.dmaCredit = NA := rfl

/-! ## Contents -/

/-- Chunk `k` of device `c`'s quarter of `x` and of `dy`. -/
def xin (c : Dev nD) (k : Fin 8) : Vec F S128x2048 .f32 := (xSrc c k).view.read (Elt F) (m ((c : Thread nD τ).loc main_arg0))
def yin (c : Dev nD) (k : Fin 8) : Vec F S128x2048 .f32 := (ySrc c k).view.read (Elt F) (m ((c : Thread nD τ).loc main_arg1))

/-- The partial sums over chunks 0 to 5, stage by stage as the kernel's parts pass them on: `dgamma`'s -/
def ga0 (c : Dev nD) : FVec F S2048 .f32 := k0_pay3 (yin m c 0) (k0_pay1 (xin m c 0)) (k0_pay2 (xin m c 0))
def ga2 (c : Dev nD) : FVec F S2048 .f32 :=
  k0_pay9 (ga0 m c) (yin m c 1) (k0_pay5 (xin m c 1)) (k0_pay6 (xin m c 1)) (xin m c 2) (yin m c 2)
def ga3 (c : Dev nD) : FVec F S2048 .f32 := k0_pay10 (ga2 m c) (xin m c 3) (yin m c 3)
def ga4 (c : Dev nD) : FVec F S2048 .f32 := k0_pay12 (ga3 m c) (xin m c 4) (yin m c 4)
/-- and `dbeta`'s. -/
def ba1 (c : Dev nD) : FVec F S2048 .f32 := k0_pay7 (k0_pay4 (yin m c 0)) (yin m c 1)
def ba3 (c : Dev nD) : FVec F S2048 .f32 := k0_pay11 (ba1 m c) (k0_pay8 (yin m c 2)) (yin m c 3)
def ba4 (c : Dev nD) : FVec F S2048 .f32 := k0_pay13 (ba3 m c) (yin m c 4)
/-- The two rows sent after chunk 5, -/
def rowA0 (c : Dev nD) : FVec F S1x2048 .bf16 := k0_pay14 (ga4 m c) (xin m c 5) (yin m c 5)
def rowA1 (c : Dev nD) : FVec F S1x2048 .bf16 := k0_pay15 (ba4 m c) (yin m c 5)
/-- and the two after chunk 7. -/
def gb6 (c : Dev nD) : FVec F S2048 .f32 := k0_pay17 (yin m c 6) (k0_pay16 (xin m c 6))
def rowB0 (c : Dev nD) : FVec F S1x2048 .bf16 := k0_pay21 (gb6 m c) (yin m c 7) (k0_pay19 (xin m c 7)) (k0_pay20 (xin m c 7))
def rowB1 (c : Dev nD) : FVec F S1x2048 .bf16 := k0_pay22 (k0_pay18 (yin m c 6)) (yin m c 7)

/-- Two rows stacked, over contents that do not matter. -/
def stack (r0 r1 : FVec F S1x2048 .bf16) (old : Vec F S2x2048 .bf16) : Vec F S2x2048 .bf16 :=
  updateSlice (updateSlice old r0 ![0, 0] slices_S2x2048_S1x2048_0_0) r1 ![1, 0] slices_S2x2048_S1x2048_1_0

/-- What device `c` holds in its first accumulator when it sends it, and in its second. -/
def accA (c : Dev nD) : Vec F S2x2048 .bf16 := stack (rowA0 m c) (rowA1 m c) (m ((c : Thread nD τ).loc cc0_scratch2))
def accB (c : Dev nD) : Vec F S2x2048 .bf16 := stack (rowB0 m c) (rowB1 m c) (m ((c : Thread nD τ).loc cc0_scratch3))

/-- Stacking does not depend on what was there. -/
theorem stack_old (r0 r1 : FVec F S1x2048 .bf16) (o o' : Vec F S2x2048 .bf16) : stack r0 r1 o = stack r0 r1 o' := by
  funext i
  have h2 : (i 0).val < 2 := (i 0).isLt
  have h3 : (i 1).val < 2048 := (i 1).isLt
  unfold stack updateSlice
  by_cases h : (i 0).val = 0
  · have : ¬ ∀ a : Fin S2x2048.rank, (![1, 0] : Fin 2 → ℕ) a ≤ (i a).val ∧ (i a).val < (![1, 0] : Fin 2 → ℕ) a + S1x2048.size (a.cast slices_S2x2048_S1x2048_1_0.1.symm) := by
      intro h'
      have h4 : 1 ≤ (i 0).val := (h' 0).1
      omega
    rw [dif_neg this, dif_neg this]
    have : ∀ a : Fin S2x2048.rank, (![0, 0] : Fin 2 → ℕ) a ≤ (i a).val ∧ (i a).val < (![0, 0] : Fin 2 → ℕ) a + S1x2048.size (a.cast slices_S2x2048_S1x2048_0_0.1.symm) := by
      intro a
      match a with
      | ⟨0, _⟩ => exact ⟨Nat.zero_le _, show (i 0).val < 0 + 1 by omega⟩
      | ⟨1, _⟩ => exact ⟨Nat.zero_le _, show (i 1).val < 0 + 2048 by omega⟩
    rw [dif_pos this, dif_pos this]
  · have : ∀ a : Fin S2x2048.rank, (![1, 0] : Fin 2 → ℕ) a ≤ (i a).val ∧ (i a).val < (![1, 0] : Fin 2 → ℕ) a + S1x2048.size (a.cast slices_S2x2048_S1x2048_1_0.1.symm) := by
      intro a
      match a with
      | ⟨0, _⟩ => exact ⟨show 1 ≤ (i 0).val by omega, show (i 0).val < 1 + 1 by omega⟩
      | ⟨1, _⟩ => exact ⟨Nat.zero_le _, show (i 1).val < 0 + 2048 by omega⟩
    rw [dif_pos this, dif_pos this]

/-- What the copy of chunk `k` leaves in the staging quarter, -/
def xLand (c : Dev nD) (k : Fin 8) : Buf (Elt F) ((c : Thread nD τ).loc cc0_scratch0) :=
  (xDst k).view.write (Elt F) (m ((c : Thread nD τ).loc cc0_scratch0)) (xin m c k) Finset.univ
def yLand (c : Dev nD) (k : Fin 8) : Buf (Elt F) ((c : Thread nD τ).loc cc0_scratch1) :=
  (yDst k).view.write (Elt F) (m ((c : Thread nD τ).loc cc0_scratch1)) (yin m c k) Finset.univ
/-- and what the partner's copy leaves in slot `s` of a landing buffer. -/
def aLand (c : Dev nD) (s : Fin 8) : Buf (Elt F) ((c : Thread nD τ).loc cc0_scratch4) :=
  (slotA s).view.write (Elt F) (m ((c : Thread nD τ).loc cc0_scratch4)) (accA m (peer c s)) Finset.univ
def bLand (c : Dev nD) (s : Fin 8) : Buf (Elt F) ((c : Thread nD τ).loc cc0_scratch5) :=
  (slotB s).view.write (Elt F) (m ((c : Thread nD τ).loc cc0_scratch5)) (accB m (peer c s)) Finset.univ

/-- What the load of slot `s` reads. -/
def aGot (c : Dev nD) (s : Fin 8) : Vec F S1x2x2048 .bf16 := bufAM.view.readAt (Elt F) (rS s).toLoadRect (aLand m c s)
def bGot (c : Dev nD) (s : Fin 8) : Vec F S1x2x2048 .bf16 := bufBM.view.readAt (Elt F) (rS s).toLoadRect (bLand m c s)

/-- The result, stage by stage. -/
def t1 (c : Dev nD) : FVec F S2x2048 .f32 :=
  k0_pay25 (k0_pay23 (accA m c) (accB m c) (aGot m c 4)) (k0_pay24 (aGot m c 2)) (aGot m c 1) (aGot m c 6)
def t2 (c : Dev nD) : FVec F S2x2048 .f32 := k0_pay27 (k0_pay26 (t1 m c) (aGot m c 5) (aGot m c 3)) (aGot m c 7) (bGot m c 4)
def t3 (c : Dev nD) : FVec F S2x2048 .f32 := k0_pay28 (t2 m c) (bGot m c 2) (bGot m c 1)
def t4 (c : Dev nD) : FVec F S2x2048 .f32 := k0_pay29 (t3 m c) (bGot m c 6) (bGot m c 5) (bGot m c 3)
/-- The kernel's result on device `c`. -/
def outAt (c : Dev nD) : FVec F S2x2048 .f32 := k0_pay30 (t4 m c) (bGot m c 7)

/-! ## The assertions the copies carry -/

abbrev tokS (s : Fin 8) : PosShare TreeShare := Transfers.shareTok fullShare 8 s

/-- Chunk `k`'s window of a staging quarter, at given contents, -/
def xWin (c : Dev nD) (k : Fin 8) (f : Buf (Elt F) ((xDst k).view.loc (c : Thread nD τ))) : sProp 𝕄 :=
  (xDst k).view.loc (c : Thread nD τ) ↦[(xDst k).view.set]{fullShare} f
def yWin (c : Dev nD) (k : Fin 8) (f : Buf (Elt F) ((yDst k).view.loc (c : Thread nD τ))) : sProp 𝕄 :=
  (yDst k).view.loc (c : Thread nD τ) ↦[(yDst k).view.set]{fullShare} f
/-- and slot `s` of a landing buffer. -/
def aSlot (c : Dev nD) (s : Fin 8) (f : Buf (Elt F) ((slotA s).view.loc (c : Thread nD τ))) : sProp 𝕄 :=
  (slotA s).view.loc (c : Thread nD τ) ↦[(slotA s).view.set]{fullShare} f
def bSlot (c : Dev nD) (s : Fin 8) (f : Buf (Elt F) ((slotB s).view.loc (c : Thread nD τ))) : sProp 𝕄 :=
  (slotB s).view.loc (c : Thread nD τ) ↦[(slotB s).view.set]{fullShare} f
/-- An accumulator held at a share. -/
def aAcc (c : Dev nD) (q : PosShare TreeShare) (f : Vec F S2x2048 .bf16) : sProp 𝕄 :=
  accAM.view.loc (c : Thread nD τ) ↦[accAM.view.set]{q} f
def bAcc (c : Dev nD) (q : PosShare TreeShare) (f : Vec F S2x2048 .bf16) : sProp 𝕄 :=
  accBM.view.loc (c : Thread nD τ) ↦[accBM.view.set]{q} f

instance xWin_storable (c : Dev nD) (k f) : BI.Storable (upEmb : UEmb _ 𝕄) (xWin (F := F) c k f) := by unfold xWin; infer_instance
instance yWin_storable (c : Dev nD) (k f) : BI.Storable (upEmb : UEmb _ 𝕄) (yWin (F := F) c k f) := by unfold yWin; infer_instance
instance aSlot_storable (c : Dev nD) (k f) : BI.Storable (upEmb : UEmb _ 𝕄) (aSlot (F := F) c k f) := by unfold aSlot; infer_instance
instance bSlot_storable (c : Dev nD) (k f) : BI.Storable (upEmb : UEmb _ 𝕄) (bSlot (F := F) c k f) := by unfold bSlot; infer_instance
instance aAcc_storable (c : Dev nD) (q f) : BI.Storable (upEmb : UEmb _ 𝕄) (aAcc (F := F) c q f) := by unfold aAcc; infer_instance
instance bAcc_storable (c : Dev nD) (q f) : BI.Storable (upEmb : UEmb _ 𝕄) (bAcc (F := F) c q f) := by unfold bAcc; infer_instance

/-- What the signal of device `peer c s` hands device `c`: its two slots `s`, that `c`'s copies will fill. -/
def barPay (c : Dev nD) (s : Fin 8) : sProp 𝕄 := iprop((∃ f, aSlot (peer c s) s f) ∗ ∃ f, bSlot (peer c s) s f)

/-- What the copies on the DMA semaphore at place `k` of array number `a` deposit. -/
def dmaPay (c : Dev nD) (a : ℕ) (k : Fin 8) : sProp 𝕄 :=
  if a = 1 then xWin c k (xLand m c k)
  else if a = 2 then yWin c k (yLand m c k)
  else if a = 3 then aAcc c (tokS k) (accA m c)
  else if a = 4 then aSlot c k (aLand m c k)
  else if a = 5 then bAcc c (tokS k) (accB m c)
  else if a = 6 then bSlot c k (bLand m c k)
  else iprop(emp)

/-- The duties of a DMA semaphore: none for the staging semaphore and for the arrays' unused place 0 of the remote copies. -/
def dmaDuties (a : ℕ) (k : Fin 8) : Finset (Fin 8) := if a = 0 then ∅ else if 3 ≤ a ∧ k = 0 then ∅ else {0}

/-- One round: a barrier cell has a duty of one unit for each of the seven partners, a DMA cell one duty of its copy's credit. -/
def sched : Rounds.Schedule (GSem nD τ sig) (Fin 8) 𝕄 where
  duties g r := if r = 0 ∧ g.1.2 = .tc then
      (match g.2 with | .reg _ => {1, 2, 3, 4, 5, 6, 7} | .dma q => dmaDuties (arrOf q) (idxOf q))
    else ∅
  unitless _ := False
  amount g _ _ := match g.2 with | .reg _ => 1 | .dma q => if arrOf q ≤ 2 then NX else NA
  payload g _ d := match g.2 with | .reg _ => barPay g.1.1 d | .dma q => dmaPay m g.1.1 (arrOf q) (idxOf q)
  amount_pos g _ _ _ := by
    obtain ⟨t, sm⟩ := g
    cases sm with
    | reg _ => exact Nat.one_pos
    | dma q =>
      show 0 < if arrOf q ≤ 2 then NX else NA
      split
      · exact NX_pos
      · exact NA_pos

instance sched_payload_storable (g : GSem nD τ sig) (r : ℕ) (d : Fin 8) :
    BI.Storable (upEmb : UEmb _ 𝕄) ((sched (F := F) m).payload g r d) := by
  obtain ⟨t, sm⟩ := g
  cases sm with
  | reg _ =>
    show BI.Storable upEmb (barPay (F := F) t.1 d)
    unfold barPay; infer_instance
  | dma q =>
    show BI.Storable upEmb (dmaPay (F := F) m t.1 (arrOf q) (idxOf q))
    unfold dmaPay
    (repeat' split) <;> infer_instance

end Cert.KernelIdealProof

end
-- ==== Proof.KernelIdealRules.lean ====
/-
One rule per kind of statement of the kernel, at a symbolic device and a symbolic chunk or mesh offset.
-/
module

public import proofs.«01_k».proof.Proof.KernelIdealSched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition on core `c`, with the body's effects and no loop above it. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The schedule's tables -/

/-- No round but the first has duties. -/
theorem duties_later (g : GSem nD τ sig) : ∀ r, 1 ≤ r → (sched (F := F) m).duties g r = ∅ :=
  fun r hr => if_neg fun h => by omega

/-- A barrier cell's round has seven duties, one for each partner; -/
theorem duties_bar (c : Dev nD) : (sched (F := F) m).duties (barC c) 0 = {1, 2, 3, 4, 5, 6, 7} := by dsimp only [sched]; exact if_pos ⟨rfl, rfl⟩
/-- a copy's cell has those of its array. -/
theorem duties_dma (c : Dev nD) (q : DmaSem sig) :
    (sched (F := F) m).duties ((c : Thread nD τ), .dma q) 0 = dmaDuties (arrOf q) (idxOf q) := by dsimp only [sched]; exact if_pos ⟨rfl, rfl⟩
/-- A signal pays one unit, -/
theorem amount_bar (c : Dev nD) (d : Fin 8) : (sched (F := F) m).amount (barC c) 0 d = 1 := rfl
/-- a copy its bytes. -/
theorem amount_dma (c : Dev nD) (q : DmaSem sig) (d : Fin 8) :
    (sched (F := F) m).amount ((c : Thread nD τ), .dma q) 0 d = if arrOf q ≤ 2 then NX else NA := rfl
/-- A signal hands over the signaller's two slots, -/
theorem payload_bar (c : Dev nD) (d : Fin 8) : (sched (F := F) m).payload (barC c) 0 d = barPay c d := rfl
/-- a copy what it has landed or given back. -/
theorem payload_dma (c : Dev nD) (q : DmaSem sig) (d : Fin 8) :
    (sched (F := F) m).payload ((c : Thread nD τ), .dma q) 0 d = dmaPay m c (arrOf q) (idxOf q) := rfl

/-- The barrier's round is complete at seven units, -/
theorem expect_bar (c : Dev nD) : (sched (F := F) m).expect (barC c) 0 = 7 := by
  unfold Schedule.expect Schedule.amountOf
  rw [duties_bar, Finset.sum_congr rfl fun d _ => amount_bar m c d]; rfl
/-- a copy's at its bytes. -/
theorem expect_dma (c : Dev nD) (q : DmaSem sig) (h : dmaDuties (arrOf q) (idxOf q) = {0}) :
    (sched (F := F) m).expect ((c : Thread nD τ), .dma q) 0 = if arrOf q ≤ 2 then NX else NA := by
  unfold Schedule.expect Schedule.amountOf; rw [duties_dma, h, Finset.sum_singleton, amount_dma]

/-- What the barrier wait collects: the seven partners' slots. -/
theorem rest_bar (c : Dev nD) :
    bigSep ((sched (F := F) m).duties (barC c) 0 \ ∅) (fun d => (sched (F := F) m).payload (barC c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]; rfl
/-- What a wait on a DMA cell collects: its copy's deposit. -/
theorem rest_dma (c : Dev nD) (q : DmaSem sig) (h : dmaDuties (arrOf q) (idxOf q) = {0}) :
    bigSep ((sched (F := F) m).duties ((c : Thread nD τ), .dma q) 0 \ ∅) (fun d => (sched (F := F) m).payload ((c : Thread nD τ), .dma q) 0 d)
      = dmaPay m c (arrOf q) (idxOf q) := by
  rw [Finset.sdiff_empty, duties_dma, h, bigSep_singleton, payload_dma]

/-! ## What is owed, and the levels -/

/-- The order in which the kernel signals and sends. -/
abbrev order : List (Fin 8) := [7, 3, 5, 6, 1, 2, 4]

/-- The second accumulator's copies still to send, -/
def OB (c : Dev nD) (l : List (Fin 8)) : CellTallies nD τ sig Unit := l.foldr (fun s O => O + tallyAt (rBC (peer c s) s) () NA) 0
/-- the first's on top of all of those, -/
def OA (c : Dev nD) (l : List (Fin 8)) : CellTallies nD τ sig Unit := l.foldr (fun s O => O + tallyAt (rAC (peer c s) s) () NA) (OB c order)
/-- and the signals on top of all the copies. -/
def OS (c : Dev nD) (l : List (Fin 8)) : CellTallies nD τ sig Unit := l.foldr (fun s O => O + tallyAt (barC (peer c s)) () 1) (OA c order)

def L (g : GSem nD τ sig) : Finset Unit := if g.1.2 = .tc then {()} else ∅
/-- The barrier cells at level 1, the cells that receive remote copies at level 2, all others at 0. -/
def lv (g : GSem nD τ sig) (_ : Unit) : ℕ :=
  match g.2 with | .reg _ => 1 | .dma q => if arrOf q = 4 ∨ arrOf q = 6 then 2 else 0

/-- Only the main cores have levels, -/
theorem L_of_ne (g : GSem nD τ sig) (h : g.1.2 ≠ .tc) : L g = ∅ := if_neg h
/-- and each of their cells has one. -/
theorem L_tc (c : Dev nD) (sm : SemLoc sig) : L ((c : Thread nD τ), sm) = {()} := if_pos rfl

/-- All that is owed lies above level `n`. -/
def Hi (n : ℕ) (O : CellTallies nD τ sig Unit) : Prop := ∀ g u, 0 < O g u → g.1.2 = .tc ∧ n < lv g u

/-- Owing nothing lies above every level. -/
theorem Hi_zero (n : ℕ) : Hi n 0 := fun g u h => absurd h (Nat.lt_irrefl 0)

/-- Adding what lies above the level keeps it so. -/
theorem Hi_fold (n N : ℕ) (f : Fin 8 → GSem nD τ sig) (hf : ∀ s, (f s).1.2 = .tc ∧ n < lv (f s) ()) (O : CellTallies nD τ sig Unit) (hO : Hi n O)
    (l : List (Fin 8)) : Hi n (l.foldr (fun s O => O + tallyAt (f s) () N) O) := by
  induction l with
  | nil => exact hO
  | cons s l ih =>
    intro g u h
    rw [List.foldr_cons, Pi.add_apply, Finsupp.add_apply, tallyAt_apply] at h
    by_cases h' : g = f s ∧ u = ()
    · rw [h'.1]; exact hf s
    · rw [if_neg h', Nat.add_zero] at h; exact ih g u h

/-- Arrival cells of the first exchange are at level 2, -/
theorem lv_rA (c : Dev nD) (s : Fin 8) (u : Unit) : lv (rAC c s) u = 2 := by
  show (if arrOf (semAt cc0_scratch9 s) = 4 ∨ arrOf (semAt cc0_scratch9 s) = 6 then 2 else 0) = 2
  rw [arr_rA]; rfl
/-- those of the second too. -/
theorem lv_rB (c : Dev nD) (s : Fin 8) (u : Unit) : lv (rBC c s) u = 2 := by
  show (if arrOf (semAt cc0_scratch11 s) = 4 ∨ arrOf (semAt cc0_scratch11 s) = 6 then 2 else 0) = 2
  rw [arr_rB]; rfl
/-- So the second exchange's copies lie above level 1, -/
theorem Hi_OB (c : Dev nD) (l : List (Fin 8)) : Hi 1 (OB c l) :=
  Hi_fold 1 NA (fun s => rBC (peer c s) s) (fun s => ⟨rfl, by rw [lv_rB]; decide⟩) 0 (Hi_zero 1) l
/-- with the first's as well; -/
theorem Hi_OA (c : Dev nD) (l : List (Fin 8)) : Hi 1 (OA c l) :=
  Hi_fold 1 NA (fun s => rAC (peer c s) s) (fun s => ⟨rfl, by rw [lv_rA]; decide⟩) _ (Hi_OB c order) l
/-- what lies above a level lies above the lower ones; -/
theorem Hi_mono {n n' : ℕ} (h : n ≤ n') {O : CellTallies nD τ sig Unit} (hO : Hi n' O) : Hi n O :=
  fun g u hg => ⟨(hO g u hg).1, Nat.lt_of_le_of_lt h (hO g u hg).2⟩
/-- and with the signals all lies above level 0. -/
theorem Hi_OS (c : Dev nD) (l : List (Fin 8)) : Hi 0 (OS c l) :=
  Hi_fold 0 1 (fun s => barC (peer c s)) (fun s => ⟨rfl, Nat.one_pos⟩) _ (Hi_mono (Nat.zero_le 1) (Hi_OA c order)) l

/-- A core may wait on a cell when all it owes lies above the cell's level. -/
theorem mayWait (c : Dev nD) (sm : SemLoc sig) (n : ℕ) (hn : lv ((c : Thread nD τ), sm) () = n) (O : CellTallies nD τ sig Unit) (hO : Hi n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact Nat.le_of_eq hn)
    (fun g u hg => (hO g u hg).2)

/-! ## The shared, persistent part -/

/-- The kernel's cells on a core, numbered: the barrier's 0, the DMA semaphores' by their own numbers. -/
def csem (i : Fin 49) : SemLoc sig := if i = 0 then .reg barS else .dma i
abbrev kcell (ci : Dev nD × Fin 49) : GSem nD τ sig := ((ci.1 : Thread nD τ), csem ci.2)

/-- The number of a copy's semaphore is that semaphore. -/
theorem csem_dma (q : DmaSem sig) (h : 0 < arrOf q) : csem q = .dma q := if_neg fun h0 => by subst h0; exact absurd h (by decide)

/-- All cells' invariants, and that each has reached its round 0. -/
def records (K : Dev nD × Fin 49 → ℕ) : sProp 𝕄 :=
  iprop((bigSep Finset.univ fun ci : Dev nD × Fin 49 => cellInv ER (sched (F := F) m) (K ci) (kcell ci))
    ∗ bigSep Finset.univ fun ci : Dev nD × Fin 49 => reached ER (kcell ci) 0)
/-- With the levels. -/
def env (K : Dev nD × Fin 49 → ℕ) : sProp 𝕄 := iprop(records m K ∗ levAts L lv)

instance records_persistent (K : Dev nD × Fin 49 → ℕ) : BI.Persistent (records (F := F) m K) := by unfold records; infer_instance
instance env_persistent (K : Dev nD × Fin 49 → ℕ) : BI.Persistent (env (F := F) m K) := by unfold env; infer_instance

variable (K : Dev nD × Fin 49 → ℕ)

/-- One cell's invariant out of all, -/
theorem inv_pick (ci : Dev nD × Fin 49) :
    (bigSep Finset.univ fun ci : Dev nD × Fin 49 => (cellInv ER (sched (F := F) m) (K ci) (kcell ci) : sProp 𝕄)) ⊢ cellInv ER (sched (F := F) m) (K ci) (kcell ci) :=
  bigSep_elim (Finset.mem_univ ci)
/-- and its reached round. -/
theorem reached_pick (ci : Dev nD × Fin 49) :
    (bigSep Finset.univ fun ci : Dev nD × Fin 49 => (reached ER (kcell ci) 0 : sProp 𝕄)) ⊢ reached ER (kcell ci) 0 :=
  bigSep_elim (Finset.mem_univ ci)
/-- The environment holds every cell's invariant, -/
theorem env_inv (ci : Dev nD × Fin 49) : env (F := F) m K ⊢ cellInv ER (sched (F := F) m) (K ci) (kcell ci) := by
  unfold env records
  iintro ⟨⟨H, -⟩, -⟩
  iapply (inv_pick m K ci); iexact H
/-- that every cell has reached its round 0, -/
theorem env_reached (ci : Dev nD × Fin 49) : env (F := F) m K ⊢ reached ER (kcell ci) 0 := by
  unfold env records
  iintro ⟨⟨-, H⟩, -⟩
  iapply (reached_pick (F := F) ci); iexact H
/-- and the levels. -/
theorem env_lev : env (F := F) m K ⊢ levAts L lv := by
  unfold env
  iintro ⟨-, H⟩; iexact H

/-- The invariant of a barrier cell, -/
theorem inv_bar (c : Dev nD) : env (F := F) m K ⊢ cellInv ER (sched (F := F) m) (K (c, 0)) (barC c) := env_inv m K (c, 0)
/-- and its reached round; -/
theorem reached_bar (c : Dev nD) : env (F := F) m K ⊢ reached ER (barC c) 0 := env_reached m K (c, 0)
/-- the invariant of a copy's cell, -/
theorem inv_dma (c : Dev nD) (q : DmaSem sig) (h : 0 < arrOf q) :
    env (F := F) m K ⊢ cellInv ER (sched (F := F) m) (K (c, q)) ((c : Thread nD τ), .dma q) := by
  have := env_inv m K (c, q); unfold kcell at this; rwa [csem_dma q h] at this
/-- and its reached round. -/
theorem reached_dma (c : Dev nD) (q : DmaSem sig) (h : 0 < arrOf q) : env (F := F) m K ⊢ reached ER ((c : Thread nD τ), .dma q) 0 := by
  have := env_reached (F := F) m K (c, q); unfold kcell at this; rwa [csem_dma q h] at this

/-- What core `c` owes, whatever it has waited for. -/
def ow (c : Dev nD) (O : CellTallies nD τ sig Unit) : sProp 𝕄 := iprop(∃ W, owes (c : Thread nD τ) O W)

/-! ## The wait on a DMA cell of the core, which closes it -/

/-- A wait on a copy's cell collects what the copy deposits, and the cell ends at zero. -/
theorem wp_wait_own (c : Dev nD) (sm : DmaSem sig) (a : ℕ) (k : Fin 8) (ha : arrOf sm = a) (hk : idxOf sm = k) (hp : 0 < a) (hd : dmaDuties a k = {0})
    {sp sp' : Space} {s s' : Shape} {e e' : EltTy} {src : Memref sig .tc sp' s' e'} {dst : Memref sig .tc sp s e}
    {h1 : src.view.WordExact} {h2 : dst.view.WordExact} {α : Type} {kont : PUnit → Prog (TpuEff nD τ sig (Elt F) Λ₀ .tc) α} {Q : α → sProp 𝕄}
    (N : ℕ) (hN : dst.view.dmaCredit = N) (hN' : N = if a ≤ 2 then NX else NA) (n : ℕ) (hn : (if a = 4 ∨ a = 6 then 2 else 0) = n)
    (O : CellTallies nD τ sig Unit) (hO : Hi n O) :
    env (F := F) m K ⊢ iprop(cred (tallyAt (((c : Thread nD τ), .dma sm) : GSem nD τ sig) () N) -∗ atPos ER (((c : Thread nD τ), .dma sm) : GSem nD τ sig) 0 ∅ 0 -∗ ow c O -∗
      ((ow c O ∗ semVal (((c : Thread nD τ), .dma sm) : GSem nD τ sig) 0 ∗ dmaPay m c a k) -∗ WP c (kont ⟨⟩) Q)
        -∗ WP c (.op (.waitDma2 sm src dst h1 h2) kont) Q) := by
  subst hN ha hk
  unfold ow
  iintro #He Hc Ha ⟨%W, Ho⟩ Hk
  iapply (Rounds.wp_wait_rest_token 𝒱₀ ER (sched m) (c : Thread nD τ) none (κ := K (c, sm))
      (wpE_waitDma2_eq 𝒱₀ (c : Thread nD τ) none Set.univ) (Set.mem_univ _) () (O := O) (W := W) (R := 0) (m := 0) (T := ∅)
      (by rw [Nat.zero_add, expect_dma m c sm hd, hN'])) $$ [Hc Ho Ha]
  · isplitr; · iapply (inv_dma m K c sm hp); iexact He
    isplitl [Hc]; · iexact Hc
    isplitl [Ho]; · iexact Ho
    isplitr; · iapply (mayWait c (.dma sm) n hn O hO); iapply (env_lev m K); iexact He
    iexact Ha
  iintro ⟨Ho, Ha, -, Hpay⟩
  ihave Hp := (Entails.of_eq (rest_dma m c sm hd)) $$ Hpay
  imod (Rounds.cell_close ER (sched m) (Set.mem_univ (K (c, sm))) (fun h => h) (R := 0 + 1) (duties_later m ((c : Thread nD τ), .dma sm))) $$ [Ha] with Hz
  · isplitr; · iapply (inv_dma m K c sm hp); iexact He
    iexact Ha
  iapply Hk
  isplitl [Ho]; · iexists _; iexact Ho
  isplitl [Hz]; · iexact Hz
  iexact Hp

/-! ## Fetching a chunk -/

/-- Before the fetch of chunk `k` of `x`: the window it lands in, a share of the argument, its duty and its cell's position; -/
def fetX (c : Dev nD) (k : Fin 8) : sProp 𝕄 :=
  iprop((∃ f, xWin c k f) ∗ (((c : Thread nD τ).loc main_arg0) ↦{tokS k} m ((c : Thread nD τ).loc main_arg0)) ∗ dutyTok ER (xC c k) 0 0 ∗ atPos ER (xC c k) 0 ∅ 0)
def fetY (c : Dev nD) (k : Fin 8) : sProp 𝕄 :=
  iprop((∃ f, yWin c k f) ∗ (((c : Thread nD τ).loc main_arg1) ↦{tokS k} m ((c : Thread nD τ).loc main_arg1)) ∗ dutyTok ER (yC c k) 0 0 ∗ atPos ER (yC c k) 0 ∅ 0)
/-- in flight; -/
def midX (c : Dev nD) (k : Fin 8) : sProp 𝕄 := iprop(cred (tallyAt (xC c k) () NX) ∗ atPos ER (xC c k) 0 ∅ 0)
def midY (c : Dev nD) (k : Fin 8) : sProp 𝕄 := iprop(cred (tallyAt (yC c k) () NX) ∗ atPos ER (yC c k) 0 ∅ 0)
/-- landed. -/
def hasX (c : Dev nD) (k : Fin 8) : sProp 𝕄 := iprop(semVal (xC c k) 0 ∗ xWin c k (xLand m c k))
def hasY (c : Dev nD) (k : Fin 8) : sProp 𝕄 := iprop(semVal (yC c k) 0 ∗ yWin c k (yLand m c k))

section
variable {α : Type} {Q : α → sProp (MT nD τ sig Unit (Elt F) ℕ UU ℕ)}

/-- The start of a fetch of `x` -/
theorem wp_fetch_x (c : Dev nD) (k : Fin 8) {h1 : (xSrc c k).view.WordExact} {h2 : (xDst k).view.WordExact}
    {h3 : DmaTarget.Typed (τ := τ) (nD := nD) (p := .tc) .hbm (.dma (semAt cc0_scratch6 k)) (.here (xDst k))} {kont : PUnit → Prog (TpuEff nD τ sig (Elt F) Λ₀ .tc) α} :
    env (F := F) m K ⊢ iprop(fetX m c k -∗ (midX c k -∗ WP c (kont ⟨⟩) Q)
      -∗ WP c (.op (.enqueueDma (xSrc c k) (.here (xDst k)) (.dma (semAt cc0_scratch6 k)) h1 h2 h3) kont) Q) := by
  unfold fetX midX
  iintro #He ⟨⟨%f, Hw⟩, Hx, Ht, Ha⟩ Hk
  ihave Hx' := ((pointsTo_split_subset (Finset.subset_univ (xSrc c k).view.set)).1) $$ Hx
  icases Hx' with ⟨Hx, -⟩
  iapply (Rounds.wp_copy_pointsTo 𝒱₀ ER (sched m) (c : Thread nD τ) none (κ := K (c, semAt cc0_scratch6 k)) (src := xSrc c k) (dst := xDst k)
      (q := tokS k) (fs := m ((c : Thread nD τ).loc main_arg0)) (fd := f) (r := 0) (d := 0)
      (by rw [duties_dma, arr_x, idx_x]; exact Finset.mem_singleton_self _) () NX rfl (by rw [amount_dma, arr_x]; rfl)
      (by
        rw [payload_dma, arr_x, idx_x]
        iintro ⟨H, -⟩
        show _ ⊢ xWin c k (xLand m c k)
        unfold xWin xLand xin
        rw [View.pointsTo_write_univ_congr (c : Thread nD τ) (xDst k).view fullShare (m ((c : Thread nD τ).loc cc0_scratch0)) f])) $$ [Hw Hx Ht]
  · isplitr; · iapply (inv_dma m K c _ (by rw [arr_x]; decide)); iexact He
    isplitl [Hx]; · iexact Hx
    isplitl [Hw]; · unfold xWin; iexact Hw
    isplitl [Ht]; · iexact Ht
    iapply (reached_dma m K c _ (by rw [arr_x]; decide)); iexact He
  iintro Hc
  iapply Hk
  isplitl [Hc]; · iexact Hc
  iexact Ha

/-- and of one of `dy`. -/
theorem wp_fetch_y (c : Dev nD) (k : Fin 8) {h1 : (ySrc c k).view.WordExact} {h2 : (yDst k).view.WordExact}
    {h3 : DmaTarget.Typed (τ := τ) (nD := nD) (p := .tc) .hbm (.dma (semAt cc0_scratch7 k)) (.here (yDst k))} {kont : PUnit → Prog (TpuEff nD τ sig (Elt F) Λ₀ .tc) α} :
    env (F := F) m K ⊢ iprop(fetY m c k -∗ (midY c k -∗ WP c (kont ⟨⟩) Q)
      -∗ WP c (.op (.enqueueDma (ySrc c k) (.here (yDst k)) (.dma (semAt cc0_scratch7 k)) h1 h2 h3) kont) Q) := by
  unfold fetY midY
  iintro #He ⟨⟨%f, Hw⟩, Hx, Ht, Ha⟩ Hk
  ihave Hx' := ((pointsTo_split_subset (Finset.subset_univ (ySrc c k).view.set)).1) $$ Hx
  icases Hx' with ⟨Hx, -⟩
  iapply (Rounds.wp_copy_pointsTo 𝒱₀ ER (sched m) (c : Thread nD τ) none (κ := K (c, semAt cc0_scratch7 k)) (src := ySrc c k) (dst := yDst k)
      (q := tokS k) (fs := m ((c : Thread nD τ).loc main_arg1)) (fd := f) (r := 0) (d := 0)
      (by rw [duties_dma, arr_y, idx_y]; exact Finset.mem_singleton_self _) () NX rfl (by rw [amount_dma, arr_y]; rfl)
      (by
        rw [payload_dma, arr_y, idx_y]
        iintro ⟨H, -⟩
        show _ ⊢ yWin c k (yLand m c k)
        unfold yWin yLand yin
        rw [View.pointsTo_write_univ_congr (c : Thread nD τ) (yDst k).view fullShare (m ((c : Thread nD τ).loc cc0_scratch1)) f])) $$ [Hw Hx Ht]
  · isplitr; · iapply (inv_dma m K c _ (by rw [arr_y]; decide)); iexact He
    isplitl [Hx]; · iexact Hx
    isplitl [Hw]; · unfold yWin; iexact Hw
    isplitl [Ht]; · iexact Ht
    iapply (reached_dma m K c _ (by rw [arr_y]; decide)); iexact He
  iintro Hc
  iapply Hk
  isplitl [Hc]; · iexact Hc
  iexact Ha

/-! ## What each array's copies hand over -/

/-- A fetch of `x` deposits its window with the chunk, -/
theorem dmaPay_1 (c : Dev nD) (k : Fin 8) : dmaPay (F := F) m c 1 k = xWin c k (xLand m c k) := by simp [dmaPay]
/-- a fetch of `dy` likewise; -/
theorem dmaPay_2 (c : Dev nD) (k : Fin 8) : dmaPay (F := F) m c 2 k = yWin c k (yLand m c k) := by simp [dmaPay]
/-- a send gives back its fraction of the first accumulator, -/
theorem dmaPay_3 (c : Dev nD) (k : Fin 8) : dmaPay (F := F) m c 3 k = aAcc c (tokS k) (accA m c) := by simp [dmaPay]
/-- an arrival hands over the slot that it filled; -/
theorem dmaPay_4 (c : Dev nD) (k : Fin 8) : dmaPay (F := F) m c 4 k = aSlot c k (aLand m c k) := by simp [dmaPay]
/-- the second exchange's sends -/
theorem dmaPay_5 (c : Dev nD) (k : Fin 8) : dmaPay (F := F) m c 5 k = bAcc c (tokS k) (accB m c) := by simp [dmaPay]
/-- and arrivals likewise. -/
theorem dmaPay_6 (c : Dev nD) (k : Fin 8) : dmaPay (F := F) m c 6 k = bSlot c k (bLand m c k) := by simp [dmaPay]

/-- The wait for chunk `k` of `x`. -/
theorem wp_wait_x (c : Dev nD) (k : Fin 8) (O : CellTallies nD τ sig Unit) (hO : Hi 0 O) {h1 : (xSrc c k).view.WordExact} {h2 : (xDst k).view.WordExact}
    {kont : PUnit → Prog (TpuEff nD τ sig (Elt F) Λ₀ .tc) α} :
    env (F := F) m K ⊢ iprop(midX c k -∗ ow c O -∗ ((ow c O ∗ hasX m c k) -∗ WP c (kont ⟨⟩) Q)
      -∗ WP c (.op (.waitDma2 (semAt cc0_scratch6 k) (xSrc c k) (xDst k) h1 h2) kont) Q) := by
  unfold midX hasX
  iintro #He ⟨Hc, Ha⟩ Ho Hk
  iapply (wp_wait_own m K c (semAt cc0_scratch6 k) 1 k (arr_x k) (idx_x k) (by decide) rfl (src := xSrc c k) (dst := xDst k) NX rfl rfl 0 rfl O hO) $$ He Hc Ha Ho
  iintro ⟨Ho, Hz, Hp⟩
  ihave Hp := (Entails.of_eq (dmaPay_1 m c _)) $$ Hp
  iapply Hk
  isplitl [Ho]; · iexact Ho
  isplitl [Hz]; · iexact Hz
  iexact Hp

/-- The load of chunk `k` of `x` reads what the copy landed. -/
theorem wp_load_x (c : Dev nD) (k : Fin 8) {hl : xqM.view.LoadsAt (rW k).toLoadRect}
    {kont : Vec F S128x2048 .f32 → Prog (TpuEff nD τ sig (Elt F) Λ₀ .tc) α} :
    hasX (F := F) m c k ⊢ iprop((hasX m c k -∗ WP c (kont (xin m c k)) Q) -∗ WP c (.op (.load xqM (rW k).toLoadRect hl) kont) Q) := by
  have e : xqM.view.readAt (Elt F) (rW k).toLoadRect (xLand m c k) = xin m c k := View.read_write_univ _ _
  unfold hasX xWin
  iintro ⟨Hz, Hw⟩ Hk
  iapply (wp_load 𝒱₀ (c : Thread nD τ) none Set.univ (m := xqM) (r := (rW k).toLoadRect) (S := (xDst k).view.set) (q := fullShare) (f := xLand m c k)
    (by rw [View.set_slice]; exact subset_rfl)) $$ Hw
  iintro Hw
  rw [e]
  iapply Hk
  isplitl [Hz]; · iexact Hz
  iexact Hw

/-- The wait for chunk `k` of `dy`. -/
theorem wp_wait_y (c : Dev nD) (k : Fin 8) (O : CellTallies nD τ sig Unit) (hO : Hi 0 O) {h1 : (ySrc c k).view.WordExact} {h2 : (yDst k).view.WordExact}
    {kont : PUnit → Prog (TpuEff nD τ sig (Elt F) Λ₀ .tc) α} :
    env (F := F) m K ⊢ iprop(midY c k -∗ ow c O -∗ ((ow c O ∗ hasY m c k) -∗ WP c (kont ⟨⟩) Q)
      -∗ WP c (.op (.waitDma2 (semAt cc0_scratch7 k) (ySrc c k) (yDst k) h1 h2) kont) Q) := by
  unfold midY hasY
  iintro #He ⟨Hc, Ha⟩ Ho Hk
  iapply (wp_wait_own m K c (semAt cc0_scratch7 k) 2 k (arr_y k) (idx_y k) (by decide) rfl (src := ySrc c k) (dst := yDst k) NX rfl rfl 0 rfl O hO) $$ He Hc Ha Ho
  iintro ⟨Ho, Hz, Hp⟩
  ihave Hp := (Entails.of_eq (dmaPay_2 m c _)) $$ Hp
  iapply Hk
  isplitl [Ho]; · iexact Ho
  isplitl [Hz]; · iexact Hz
  iexact Hp

/-- The load of chunk `k` of `dy` reads what the copy landed. -/
theorem wp_load_y (c : Dev nD) (k : Fin 8) {hl : yqM.view.LoadsAt (rW k).toLoadRect}
    {kont : Vec F S128x2048 .f32 → Prog (TpuEff nD τ sig (Elt F) Λ₀ .tc) α} :
    hasY (F := F) m c k ⊢ iprop((hasY m c k -∗ WP c (kont (yin m c k)) Q) -∗ WP c (.op (.load yqM (rW k).toLoadRect hl) kont) Q) := by
  have e : yqM.view.readAt (Elt F) (rW k).toLoadRect (yLand m c k) = yin m c k := View.read_write_univ _ _
  unfold hasY yWin
  iintro ⟨Hz, Hw⟩ Hk
  iapply (wp_load 𝒱₀ (c : Thread nD τ) none Set.univ (m := yqM) (r := (rW k).toLoadRect) (S := (yDst k).view.set) (q := fullShare) (f := yLand m c k)
    (by rw [View.set_slice]; exact subset_rfl)) $$ Hw
  iintro Hw
  rw [e]
  iapply Hk
  isplitl [Hz]; · iexact Hz
  iexact Hw

/-! ## The entry handshake -/

/-- Before the signal to the partner at offset `s`: its duty on the partner's barrier cell, and the two slots it hands over. -/
def sigPre (c : Dev nD) (s : Fin 8) : sProp 𝕄 := iprop(dutyTok ER (barC (peer c s)) 0 s ∗ (∃ f, aSlot c s f) ∗ ∃ f, bSlot c s f)

/-- The signal to a partner lends it this device's two slots for it. -/
theorem wp_sig (c n : Dev nD) (s : Fin 8) (hn : n = peer c s) (hs : s ∈ ({1, 2, 3, 4, 5, 6, 7} : Finset (Fin 8))) (l : List (Fin 8))
    {kont : PUnit → Prog (TpuEff nD τ sig (Elt F) Λ₀ .tc) α} :
    env (F := F) m K ⊢ iprop(sigPre c s -∗ ow c (OS c (s :: l)) -∗ (ow c (OS c l) -∗ WP c (kont ⟨⟩) Q)
      -∗ WP c (.op (.semSignal (n, .tc) barS (1#32).toInt) kont) Q) := by
  subst hn
  unfold sigPre ow
  iintro #He ⟨Ht, Ha, Hb⟩ ⟨%W, Ho⟩ Hk
  iapply (Rounds.wp_signal 𝒱₀ ER (sched m) (c : Thread nD τ) none (dst := (peer c s : Thread nD τ)) (κ := K (peer c s, 0)) (r := 0)
      (d := s) (by rw [duties_bar]; exact hs) ((amount_bar m (peer c s) s).trans (by decide)) () (OS c l) rfl (W := W)) $$ [Ht Ha Hb Ho]
  · isplitr; · iapply (inv_bar m K (peer c s)); iexact He
    isplitl [Ho]; · iexact Ho
    isplitl [Ht]; · iexact Ht
    isplitl [Ha Hb]
    · rw [payload_bar]; unfold barPay; rw [peer_peer]
      isplitl [Ha]; · iexact Ha
      iexact Hb
    iapply (reached_bar m K (peer c s)); iexact He
  iintro Ho
  iapply Hk
  iexists W; iexact Ho

/-- Before the barrier wait: seven units of credit and the position; -/
def barPre (c : Dev nD) : sProp 𝕄 := iprop(cred (tallyAt (barC c) () 7) ∗ atPos ER (barC c) 0 ∅ 0)

/-- The wait on the barrier collects the partners' slots. -/
theorem wp_bar (c : Dev nD) {kont : PUnit → Prog (TpuEff nD τ sig (Elt F) Λ₀ .tc) α} :
    env (F := F) m K ⊢ iprop(barPre c -∗ ow c (OA c order) -∗
      ((ow c (OA c order) ∗ semVal (barC c) 0 ∗ barPay c 1 ∗ barPay c 2 ∗ barPay c 3 ∗ barPay c 4 ∗ barPay c 5 ∗ barPay c 6 ∗ barPay c 7) -∗ WP c (kont ⟨⟩) Q)
      -∗ WP c (.op (.semWait barS (7#32).toInt) kont) Q) := by
  unfold barPre ow
  iintro #He ⟨Hc, Ha⟩ ⟨%W, Ho⟩ Hk
  iapply (Rounds.wp_wait_rest_token 𝒱₀ ER (sched m) (c : Thread nD τ) none (κ := K (c, 0))
      (wpE_semWait_eq 𝒱₀ (c : Thread nD τ) none Set.univ) (Set.mem_univ _) () (O := OA c order) (W := W) (R := 0) (m := 0) (T := ∅)
      (by rw [expect_bar]; decide)) $$ [Hc Ho Ha]
  · isplitr; · iapply (inv_bar m K c); iexact He
    isplitl [Hc]; · iexact Hc
    isplitl [Ho]; · iexact Ho
    isplitr; · iapply (mayWait c (.reg barS) 1 rfl (OA c order) (Hi_OA c order)); iapply (env_lev m K); iexact He
    iexact Ha
  iintro ⟨Ho, Ha, -, Hpay⟩
  ihave Hp := (Entails.of_eq (rest_bar m c)) $$ Hpay
  imod (Rounds.cell_close ER (sched m) (Set.mem_univ (K (c, 0))) (fun h => h) (R := 0 + 1) (duties_later m (barC c))) $$ [Ha] with Hz
  · isplitr; · iapply (inv_bar m K c); iexact He
    iexact Ha
  iapply Hk
  isplitl [Ho]; · iexists _; iexact Ho
  isplitl [Hz]; · iexact Hz
  iexact Hp

/-- The rectangle of a whole accumulator. -/
abbrev rAll : Rect S2x2048 := Rect.unit (s := S2x2048) ![0, 0] S2x2048.size inb_S2x2048_S2x2048_0_0
/-- The offsets 0 and 0 are no offset. -/
theorem hz : (![0, 0] : Fin 2 → Nat) = fun _ => 0 := funext fun a => by fin_cases a <;> rfl

/-! ## The exchange of the first accumulator -/

/-- Before the copy to the partner at offset `s`: its two duties and the position of its send cell; -/
def sndA (c : Dev nD) (s : Fin 8) : sProp 𝕄 :=
  iprop(dutyTok ER (sAC c s) 0 0 ∗ dutyTok ER (rAC (peer c s) s) 0 0 ∗ atPos ER (sAC c s) 0 ∅ 0)
/-- in flight. -/
def flyA (c : Dev nD) (s : Fin 8) : sProp 𝕄 := iprop(cred (tallyAt (sAC c s) () NA) ∗ atPos ER (sAC c s) 0 ∅ 0)
/-- Before the partner's copy is waited for, and after. -/
def rcvA (c : Dev nD) (s : Fin 8) : sProp 𝕄 := iprop(cred (tallyAt (rAC c s) () NA) ∗ atPos ER (rAC c s) 0 ∅ 0)
def gotA (c : Dev nD) (s : Fin 8) : sProp 𝕄 := iprop(semVal (rAC c s) 0 ∗ aSlot c s (aLand m c s))
/-- The send cell closed and the share of the accumulator back. -/
def bckA (c : Dev nD) (s : Fin 8) : sProp 𝕄 := iprop(semVal (sAC c s) 0 ∗ aAcc c (tokS s) (accA m c))

/-- The start of a copy of the first accumulator into a partner's slot; -/
theorem wp_send_a (c n : Dev nD) (s : Fin 8) (hn : n = peer c s) (hs : s ≠ 0) (l : List (Fin 8))
    {hsc : (slotA s).view.ref.isScScratch = false} {h1 : accAM.view.WordExact} {h2 : (slotA s).view.WordExact}
    {h3 : DmaTarget.Typed (τ := τ) (nD := nD) (p := .tc) .vmem (.dma (semAt cc0_scratch9 s)) (.remote (Dev.tc n : Thread nD τ) (slotA s) (.dma (semAt cc0_scratch8 s)) hsc)}
    {kont : PUnit → Prog (TpuEff nD τ sig (Elt F) Λ₀ .tc) α} :
    env (F := F) m K ⊢ iprop(sndA c s -∗ aAcc c (tokS s) (accA m c) -∗ (∃ f, aSlot (peer c s) s f) -∗ ow c (OA c (s :: l)) -∗
      ((ow c (OA c l) ∗ flyA c s) -∗ WP c (kont ⟨⟩) Q)
      -∗ WP c (.op (.enqueueDma accAM (.remote (Dev.tc n : Thread nD τ) (slotA s) (.dma (semAt cc0_scratch8 s)) hsc) (.dma (semAt cc0_scratch9 s)) h1 h2 h3) kont) Q) := by
  subst hn
  have hd : ∀ a, 3 ≤ a → dmaDuties a s = {0} := fun a ha => by
    unfold dmaDuties; rw [if_neg (by omega), if_neg (fun h => hs h.2)]
  unfold sndA flyA ow aAcc aSlot
  iintro #He ⟨Ht1, Ht2, Ha⟩ Hx ⟨%f, Hd⟩ ⟨%W, Ho⟩ Hk
  iapply (Rounds.wp_send_pointsTo 𝒱₀ ER (sched m) (c : Thread nD τ) none (κ₁ := K (c, semAt cc0_scratch8 s)) (κ₂ := K (peer c s, semAt cc0_scratch9 s))
      (r₁ := 0) (r₂ := 0) (d₁ := 0) (d₂ := 0) (fs := accA m c) (fd := f) (q := tokS s)
      (by rw [duties_dma, arr_sA, idx_sA, hd _ (by decide)]; exact Finset.mem_singleton_self _)
      (by rw [duties_dma, arr_rA, idx_rA, hd _ (by decide)]; exact Finset.mem_singleton_self _)
      () () NA rfl (by rw [amount_dma, arr_sA]; rfl) (by rw [amount_dma, arr_rA]; rfl) (OA c l) rfl (W := W)
      (by
        rw [payload_dma, arr_sA, idx_sA]
        show _ ⊢ aAcc c (tokS s) (accA m c)
        unfold aAcc; exact BI.Entails.refl _)
      (by
        rw [payload_dma, arr_rA, idx_rA]
        show _ ⊢ aSlot (peer c s) s (aLand m (peer c s) s)
        unfold aSlot aLand
        rw [peer_peer, View.pointsTo_write_univ_congr (peer c s : Thread nD τ) (slotA s).view fullShare (m ((peer c s : Thread nD τ).loc cc0_scratch4)) f, show accAM.view.read (Elt F) (accA m c) = accA m c from View.read_whole cc0_scratch2 _])) $$ [Ht1 Ht2 Hx Hd Ho]
  · isplitr; · iapply (inv_dma m K c _ (by rw [arr_sA]; decide)); iexact He
    isplitr; · iapply (inv_dma m K (peer c s) _ (by rw [arr_rA]; decide)); iexact He
    isplitl [Hx]; · iexact Hx
    isplitl [Hd]; · iexact Hd
    isplitl [Ho]; · iexact Ho
    isplitl [Ht1]; · iexact Ht1
    isplitr; · iapply (reached_dma m K c _ (by rw [arr_sA]; decide)); iexact He
    isplitl [Ht2]; · iexact Ht2
    iapply (reached_dma m K (peer c s) _ (by rw [arr_rA]; decide)); iexact He
  iintro ⟨Hc, Ho⟩
  iapply Hk
  isplitl [Ho]; · iexists W; iexact Ho
  isplitl [Hc]; · iexact Hc
  iexact Ha

/-- the wait for what a partner sends; -/
theorem wp_recv_a (c : Dev nD) (s : Fin 8) (hs : s ≠ 0) {h1 : accAM.view.WordExact} {h2 : (slotA s).view.WordExact}
    {kont : PUnit → Prog (TpuEff nD τ sig (Elt F) Λ₀ .tc) α} :
    env (F := F) m K ⊢ iprop(rcvA c s -∗ ow c 0 -∗ ((ow c 0 ∗ gotA m c s) -∗ WP c (kont ⟨⟩) Q)
      -∗ WP c (.op (.waitDma2 (semAt cc0_scratch9 s) accAM (slotA s) h1 h2) kont) Q) := by
  unfold rcvA gotA
  iintro #He ⟨Hc, Ha⟩ Ho Hk
  iapply (wp_wait_own m K c (semAt cc0_scratch9 s) 4 s (arr_rA s) (idx_rA s) (by decide) (by unfold dmaDuties; rw [if_neg (by decide), if_neg (fun h => hs h.2)])
    (src := accAM) (dst := slotA s) NA rfl rfl 2 rfl 0 (Hi_zero 2)) $$ He Hc Ha Ho
  iintro ⟨Ho, Hz, Hp⟩
  ihave Hp := (Entails.of_eq (dmaPay_4 m c _)) $$ Hp
  iapply Hk
  isplitl [Ho]; · iexact Ho
  isplitl [Hz]; · iexact Hz
  iexact Hp

/-- the load of the slot it filled; -/
theorem wp_load_slot_a (c : Dev nD) (s : Fin 8) {hl : bufAM.view.LoadsAt (rS s).toLoadRect}
    {kont : Vec F S1x2x2048 .bf16 → Prog (TpuEff nD τ sig (Elt F) Λ₀ .tc) α} :
    gotA (F := F) m c s ⊢ iprop((gotA m c s -∗ WP c (kont (aGot m c s)) Q) -∗ WP c (.op (.load bufAM (rS s).toLoadRect hl) kont) Q) := by
  unfold gotA aSlot
  iintro ⟨Hz, Hw⟩ Hk
  iapply (wp_load 𝒱₀ (c : Thread nD τ) none Set.univ (m := bufAM) (r := (rS s).toLoadRect) (S := (slotA s).view.set) (q := fullShare) (f := aLand m c s)
    ((View.set_slice _ _).symm.trans (View.set_reshape _ _).symm).subset) $$ Hw
  iintro Hw
  iapply Hk
  isplitl [Hz]; · iexact Hz
  iexact Hw

/-- and the wait for the copy's end, which gives its fraction back. -/
theorem wp_back_a (c : Dev nD) (s : Fin 8) (hs : s ≠ 0) {h1 : (slotA s).view.WordExact} {h2 : accAM.view.WordExact}
    {kont : PUnit → Prog (TpuEff nD τ sig (Elt F) Λ₀ .tc) α} :
    env (F := F) m K ⊢ iprop(flyA c s -∗ ow c 0 -∗ ((ow c 0 ∗ bckA m c s) -∗ WP c (kont ⟨⟩) Q)
      -∗ WP c (.op (.waitDma2 (semAt cc0_scratch8 s) (slotA s) accAM h1 h2) kont) Q) := by
  unfold flyA bckA
  iintro #He ⟨Hc, Ha⟩ Ho Hk
  iapply (wp_wait_own m K c (semAt cc0_scratch8 s) 3 s (arr_sA s) (idx_sA s) (by decide) (by unfold dmaDuties; rw [if_neg (by decide), if_neg (fun h => hs h.2)])
    (src := slotA s) (dst := accAM) NA rfl rfl 0 rfl 0 (Hi_zero 0)) $$ He Hc Ha Ho
  iintro ⟨Ho, Hz, Hp⟩
  ihave Hp := (Entails.of_eq (dmaPay_3 m c _)) $$ Hp
  iapply Hk
  isplitl [Ho]; · iexact Ho
  isplitl [Hz]; · iexact Hz
  iexact Hp

/-- A load from the accumulator, at any share, whose value the caller may forget. -/
theorem wp_load_acc_a (c : Dev nD) (q : PosShare TreeShare) (f : Vec F S2x2048 .bf16) (r : LoadRect S2x2048) {hl : accAM.view.LoadsAt r}
    {kont : (r.shape.Idx → Elt F .bf16) → Prog (TpuEff nD τ sig (Elt F) Λ₀ .tc) α} :
    aAcc (F := F) c q f ⊢ iprop((aAcc c q f -∗ WP c (kont (accAM.view.readAt (Elt F) r f)) Q) -∗ WP c (.op (.load accAM r hl) kont) Q) := by
  unfold aAcc
  exact wp_load 𝒱₀ (c : Thread nD τ) none Set.univ (m := accAM) ((Finset.subset_univ _).trans (View.set_whole cc0_scratch2).symm.subset)

/-- The load of the whole accumulator reads its contents; -/
theorem wp_load_all_a (c : Dev nD) (q : PosShare TreeShare) (f : Vec F S2x2048 .bf16) {hl : accAM.view.LoadsAt rAll.toLoadRect}
    {kont : Vec F S2x2048 .bf16 → Prog (TpuEff nD τ sig (Elt F) Λ₀ .tc) α} :
    aAcc (F := F) c q f ⊢ iprop((aAcc c q f -∗ WP c (kont f) Q) -∗ WP c (.op (.load accAM rAll.toLoadRect hl) kont) Q) := by
  have e : accAM.view.readAt (Elt F) rAll.toLoadRect f = f := Memref.readAt_unit_zero (Elt F) cc0_scratch2 hz _ f
  have h := wp_load_acc_a (Q := Q) c q f rAll.toLoadRect (hl := hl) (kont := kont)
  rw [e] at h; exact h

/-- the store over all of it replaces them. -/
theorem wp_store_a (c : Dev nD) (f w : Vec F S2x2048 .bf16) {hs : (accAM.access rAll).Stores Finset.univ}
    {hm : Finset.univ = Finset.univ ∨ ∀ a, rAll.stride a = 1} {kont : PUnit → Prog (TpuEff nD τ sig (Elt F) Λ₀ .tc) α} :
    aAcc (F := F) c fullShare f ⊢ iprop((aAcc c fullShare w -∗ WP c (kont ⟨⟩) Q) -∗ WP c (.op (.store accAM rAll w Finset.univ hs hm) kont) Q) := by
  have e : (accAM.access rAll : View sig .tc _ _ _).write (Elt F) f w Finset.univ = w := Memref.write_access_unit_zero_univ (Elt F) cc0_scratch2 hz _ f w
  unfold aAcc
  have h := wp_store (defs := defs₀ (F := F)) (Γ := .empty) 𝒱₀ (c : Thread nD τ) none Set.univ (m := accAM) (r := rAll) (w := w) (Mk := Finset.univ) (hx := hs) (hm := hm) (f := f) (k := kont) (Q := Q)
    (S := accAM.view.set) ((Finset.subset_univ _).trans (View.set_whole cc0_scratch2).symm.subset)
  rw [e] at h; exact h

/-- The two row updates of the accumulator leave `accA` in it, whatever it held: it is dealt into the shares the copies take. -/
theorem deal_a (c : Dev nD) (f : Vec F S2x2048 .bf16) :
    aAcc (F := F) c fullShare (stack (rowA0 m c) (rowA1 m c) f) ⊢ iprop(aAcc c (Transfers.shareDrop fullShare 8) (accA m c)
      ∗ aAcc c (tokS 0) (accA m c) ∗ aAcc c (tokS 1) (accA m c) ∗ aAcc c (tokS 2) (accA m c) ∗ aAcc c (tokS 3) (accA m c)
      ∗ aAcc c (tokS 4) (accA m c) ∗ aAcc c (tokS 5) (accA m c) ∗ aAcc c (tokS 6) (accA m c) ∗ aAcc c (tokS 7) (accA m c)) := by
  rw [stack_old (rowA0 m c) (rowA1 m c) f (m ((c : Thread nD τ).loc cc0_scratch2)), show stack _ _ (m ((c : Thread nD τ).loc cc0_scratch2)) = accA m c from rfl]
  unfold aAcc
  exact (Transfers.pointsTo_toks_split fullShare 8).trans (sep_mono_right (Entails.of_eq (by
    rw [bigSep_univ_eq_bigSepL [0, 1, 2, 3, 4, 5, 6, 7] (by decide) (by decide)]; rfl)))

/-- The shares join again. -/
theorem undeal_a (c : Dev nD) (f : Vec F S2x2048 .bf16) :
    iprop(aAcc (F := F) c (Transfers.shareDrop fullShare 8) f
      ∗ aAcc c (tokS 0) f ∗ aAcc c (tokS 1) f ∗ aAcc c (tokS 2) f ∗ aAcc c (tokS 3) f
      ∗ aAcc c (tokS 4) f ∗ aAcc c (tokS 5) f ∗ aAcc c (tokS 6) f ∗ aAcc c (tokS 7) f) ⊢ aAcc c fullShare f := by
  unfold aAcc
  exact (sep_mono_right (Entails.of_eq (by
    rw [bigSep_univ_eq_bigSepL [0, 1, 2, 3, 4, 5, 6, 7] (by decide) (by decide)]; rfl))).trans (Transfers.pointsTo_toks_join fullShare 8)

/-! ## The exchange of the second accumulator -/

/-- Before the copy to the partner at offset `s`: its two duties and the position of its send cell; -/
def sndB (c : Dev nD) (s : Fin 8) : sProp 𝕄 :=
  iprop(dutyTok ER (sBC c s) 0 0 ∗ dutyTok ER (rBC (peer c s) s) 0 0 ∗ atPos ER (sBC c s) 0 ∅ 0)
/-- in flight. -/
def flyB (c : Dev nD) (s : Fin 8) : sProp 𝕄 := iprop(cred (tallyAt (sBC c s) () NA) ∗ atPos ER (sBC c s) 0 ∅ 0)
/-- Before the partner's copy is waited for, and after. -/
def rcvB (c : Dev nD) (s : Fin 8) : sProp 𝕄 := iprop(cred (tallyAt (rBC c s) () NA) ∗ atPos ER (rBC c s) 0 ∅ 0)
def gotB (c : Dev nD) (s : Fin 8) : sProp 𝕄 := iprop(semVal (rBC c s) 0 ∗ bSlot c s (bLand m c s))
/-- The send cell closed and the share of the accumulator back. -/
def bckB (c : Dev nD) (s : Fin 8) : sProp 𝕄 := iprop(semVal (sBC c s) 0 ∗ bAcc c (tokS s) (accB m c))

/-- The start of a copy of the second accumulator into a partner's slot; -/
theorem wp_send_b (c n : Dev nD) (s : Fin 8) (hn : n = peer c s) (hs : s ≠ 0) (l : List (Fin 8))
    {hsc : (slotB s).view.ref.isScScratch = false} {h1 : accBM.view.WordExact} {h2 : (slotB s).view.WordExact}
    {h3 : DmaTarget.Typed (τ := τ) (nD := nD) (p := .tc) .vmem (.dma (semAt cc0_scratch11 s)) (.remote (Dev.tc n : Thread nD τ) (slotB s) (.dma (semAt cc0_scratch10 s)) hsc)}
    {kont : PUnit → Prog (TpuEff nD τ sig (Elt F) Λ₀ .tc) α} :
    env (F := F) m K ⊢ iprop(sndB c s -∗ bAcc c (tokS s) (accB m c) -∗ (∃ f, bSlot (peer c s) s f) -∗ ow c (OB c (s :: l)) -∗
      ((ow c (OB c l) ∗ flyB c s) -∗ WP c (kont ⟨⟩) Q)
      -∗ WP c (.op (.enqueueDma accBM (.remote (Dev.tc n : Thread nD τ) (slotB s) (.dma (semAt cc0_scratch10 s)) hsc) (.dma (semAt cc0_scratch11 s)) h1 h2 h3) kont) Q) := by
  subst hn
  have hd : ∀ a, 3 ≤ a → dmaDuties a s = {0} := fun a ha => by
    unfold dmaDuties; rw [if_neg (by omega), if_neg (fun h => hs h.2)]
  unfold sndB flyB ow bAcc bSlot
  iintro #He ⟨Ht1, Ht2, Ha⟩ Hx ⟨%f, Hd⟩ ⟨%W, Ho⟩ Hk
  iapply (Rounds.wp_send_pointsTo 𝒱₀ ER (sched m) (c : Thread nD τ) none (κ₁ := K (c, semAt cc0_scratch10 s)) (κ₂ := K (peer c s, semAt cc0_scratch11 s))
      (r₁ := 0) (r₂ := 0) (d₁ := 0) (d₂ := 0) (fs := accB m c) (fd := f) (q := tokS s)
      (by rw [duties_dma, arr_sB, idx_sB, hd _ (by decide)]; exact Finset.mem_singleton_self _)
      (by rw [duties_dma, arr_rB, idx_rB, hd _ (by decide)]; exact Finset.mem_singleton_self _)
      () () NA rfl (by rw [amount_dma, arr_sB]; rfl) (by rw [amount_dma, arr_rB]; rfl) (OB c l) rfl (W := W)
      (by
        rw [payload_dma, arr_sB, idx_sB]
        show _ ⊢ bAcc c (tokS s) (accB m c)
        unfold bAcc; exact BI.Entails.refl _)
      (by
        rw [payload_dma, arr_rB, idx_rB]
        show _ ⊢ bSlot (peer c s) s (bLand m (peer c s) s)
        unfold bSlot bLand
        rw [peer_peer, View.pointsTo_write_univ_congr (peer c s : Thread nD τ) (slotB s).view fullShare (m ((peer c s : Thread nD τ).loc cc0_scratch5)) f, show accBM.view.read (Elt F) (accB m c) = accB m c from View.read_whole cc0_scratch3 _])) $$ [Ht1 Ht2 Hx Hd Ho]
  · isplitr; · iapply (inv_dma m K c _ (by rw [arr_sB]; decide)); iexact He
    isplitr; · iapply (inv_dma m K (peer c s) _ (by rw [arr_rB]; decide)); iexact He
    isplitl [Hx]; · iexact Hx
    isplitl [Hd]; · iexact Hd
    isplitl [Ho]; · iexact Ho
    isplitl [Ht1]; · iexact Ht1
    isplitr; · iapply (reached_dma m K c _ (by rw [arr_sB]; decide)); iexact He
    isplitl [Ht2]; · iexact Ht2
    iapply (reached_dma m K (peer c s) _ (by rw [arr_rB]; decide)); iexact He
  iintro ⟨Hc, Ho⟩
  iapply Hk
  isplitl [Ho]; · iexists W; iexact Ho
  isplitl [Hc]; · iexact Hc
  iexact Ha

/-- the wait for what a partner sends; -/
theorem wp_recv_b (c : Dev nD) (s : Fin 8) (hs : s ≠ 0) {h1 : accBM.view.WordExact} {h2 : (slotB s).view.WordExact}
    {kont : PUnit → Prog (TpuEff nD τ sig (Elt F) Λ₀ .tc) α} :
    env (F := F) m K ⊢ iprop(rcvB c s -∗ ow c 0 -∗ ((ow c 0 ∗ gotB m c s) -∗ WP c (kont ⟨⟩) Q)
      -∗ WP c (.op (.waitDma2 (semAt cc0_scratch11 s) accBM (slotB s) h1 h2) kont) Q) := by
  unfold rcvB gotB
  iintro #He ⟨Hc, Ha⟩ Ho Hk
  iapply (wp_wait_own m K c (semAt cc0_scratch11 s) 6 s (arr_rB s) (idx_rB s) (by decide) (by unfold dmaDuties; rw [if_neg (by decide), if_neg (fun h => hs h.2)])
    (src := accBM) (dst := slotB s) NA rfl rfl 2 rfl 0 (Hi_zero 2)) $$ He Hc Ha Ho
  iintro ⟨Ho, Hz, Hp⟩
  ihave Hp := (Entails.of_eq (dmaPay_6 m c _)) $$ Hp
  iapply Hk
  isplitl [Ho]; · iexact Ho
  isplitl [Hz]; · iexact Hz
  iexact Hp

/-- the load of the slot it filled; -/
theorem wp_load_slot_b (c : Dev nD) (s : Fin 8) {hl : bufBM.view.LoadsAt (rS s).toLoadRect}
    {kont : Vec F S1x2x2048 .bf16 → Prog (TpuEff nD τ sig (Elt F) Λ₀ .tc) α} :
    gotB (F := F) m c s ⊢ iprop((gotB m c s -∗ WP c (kont (bGot m c s)) Q) -∗ WP c (.op (.load bufBM (rS s).toLoadRect hl) kont) Q) := by
  unfold gotB bSlot
  iintro ⟨Hz, Hw⟩ Hk
  iapply (wp_load 𝒱₀ (c : Thread nD τ) none Set.univ (m := bufBM) (r := (rS s).toLoadRect) (S := (slotB s).view.set) (q := fullShare) (f := bLand m c s)
    ((View.set_slice _ _).symm.trans (View.set_reshape _ _).symm).subset) $$ Hw
  iintro Hw
  iapply Hk
  isplitl [Hz]; · iexact Hz
  iexact Hw

/-- and the wait for the copy's end, which gives its fraction back. -/
theorem wp_back_b (c : Dev nD) (s : Fin 8) (hs : s ≠ 0) {h1 : (slotB s).view.WordExact} {h2 : accBM.view.WordExact}
    {kont : PUnit → Prog (TpuEff nD τ sig (Elt F) Λ₀ .tc) α} :
    env (F := F) m K ⊢ iprop(flyB c s -∗ ow c 0 -∗ ((ow c 0 ∗ bckB m c s) -∗ WP c (kont ⟨⟩) Q)
      -∗ WP c (.op (.waitDma2 (semAt cc0_scratch10 s) (slotB s) accBM h1 h2) kont) Q) := by
  unfold flyB bckB
  iintro #He ⟨Hc, Ha⟩ Ho Hk
  iapply (wp_wait_own m K c (semAt cc0_scratch10 s) 5 s (arr_sB s) (idx_sB s) (by decide) (by unfold dmaDuties; rw [if_neg (by decide), if_neg (fun h => hs h.2)])
    (src := slotB s) (dst := accBM) NA rfl rfl 0 rfl 0 (Hi_zero 0)) $$ He Hc Ha Ho
  iintro ⟨Ho, Hz, Hp⟩
  ihave Hp := (Entails.of_eq (dmaPay_5 m c _)) $$ Hp
  iapply Hk
  isplitl [Ho]; · iexact Ho
  isplitl [Hz]; · iexact Hz
  iexact Hp

/-- A load from the accumulator, at any share, whose value the caller may forget. -/
theorem wp_load_acc_b (c : Dev nD) (q : PosShare TreeShare) (f : Vec F S2x2048 .bf16) (r : LoadRect S2x2048) {hl : accBM.view.LoadsAt r}
    {kont : (r.shape.Idx → Elt F .bf16) → Prog (TpuEff nD τ sig (Elt F) Λ₀ .tc) α} :
    bAcc (F := F) c q f ⊢ iprop((bAcc c q f -∗ WP c (kont (accBM.view.readAt (Elt F) r f)) Q) -∗ WP c (.op (.load accBM r hl) kont) Q) := by
  unfold bAcc
  exact wp_load 𝒱₀ (c : Thread nD τ) none Set.univ (m := accBM) ((Finset.subset_univ _).trans (View.set_whole cc0_scratch3).symm.subset)

/-- The load of the whole accumulator reads its contents; -/
theorem wp_load_all_b (c : Dev nD) (q : PosShare TreeShare) (f : Vec F S2x2048 .bf16) {hl : accBM.view.LoadsAt rAll.toLoadRect}
    {kont : Vec F S2x2048 .bf16 → Prog (TpuEff nD τ sig (Elt F) Λ₀ .tc) α} :
    bAcc (F := F) c q f ⊢ iprop((bAcc c q f -∗ WP c (kont f) Q) -∗ WP c (.op (.load accBM rAll.toLoadRect hl) kont) Q) := by
  have e : accBM.view.readAt (Elt F) rAll.toLoadRect f = f := Memref.readAt_unit_zero (Elt F) cc0_scratch3 hz _ f
  have h := wp_load_acc_b (Q := Q) c q f rAll.toLoadRect (hl := hl) (kont := kont)
  rw [e] at h; exact h

/-- the store over all of it replaces them. -/
theorem wp_store_b (c : Dev nD) (f w : Vec F S2x2048 .bf16) {hs : (accBM.access rAll).Stores Finset.univ}
    {hm : Finset.univ = Finset.univ ∨ ∀ a, rAll.stride a = 1} {kont : PUnit → Prog (TpuEff nD τ sig (Elt F) Λ₀ .tc) α} :
    bAcc (F := F) c fullShare f ⊢ iprop((bAcc c fullShare w -∗ WP c (kont ⟨⟩) Q) -∗ WP c (.op (.store accBM rAll w Finset.univ hs hm) kont) Q) := by
  have e : (accBM.access rAll : View sig .tc _ _ _).write (Elt F) f w Finset.univ = w := Memref.write_access_unit_zero_univ (Elt F) cc0_scratch3 hz _ f w
  unfold bAcc
  have h := wp_store (defs := defs₀ (F := F)) (Γ := .empty) 𝒱₀ (c : Thread nD τ) none Set.univ (m := accBM) (r := rAll) (w := w) (Mk := Finset.univ) (hx := hs) (hm := hm) (f := f) (k := kont) (Q := Q)
    (S := accBM.view.set) ((Finset.subset_univ _).trans (View.set_whole cc0_scratch3).symm.subset)
  rw [e] at h; exact h

/-- The two row updates of the accumulator leave `accB` in it, whatever it held: it is dealt into the shares the copies take. -/
theorem deal_b (c : Dev nD) (f : Vec F S2x2048 .bf16) :
    bAcc (F := F) c fullShare (stack (rowB0 m c) (rowB1 m c) f) ⊢ iprop(bAcc c (Transfers.shareDrop fullShare 8) (accB m c)
      ∗ bAcc c (tokS 0) (accB m c) ∗ bAcc c (tokS 1) (accB m c) ∗ bAcc c (tokS 2) (accB m c) ∗ bAcc c (tokS 3) (accB m c)
      ∗ bAcc c (tokS 4) (accB m c) ∗ bAcc c (tokS 5) (accB m c) ∗ bAcc c (tokS 6) (accB m c) ∗ bAcc c (tokS 7) (accB m c)) := by
  rw [stack_old (rowB0 m c) (rowB1 m c) f (m ((c : Thread nD τ).loc cc0_scratch3)), show stack _ _ (m ((c : Thread nD τ).loc cc0_scratch3)) = accB m c from rfl]
  unfold bAcc
  exact (Transfers.pointsTo_toks_split fullShare 8).trans (sep_mono_right (Entails.of_eq (by
    rw [bigSep_univ_eq_bigSepL [0, 1, 2, 3, 4, 5, 6, 7] (by decide) (by decide)]; rfl)))

/-- The shares join again. -/
theorem undeal_b (c : Dev nD) (f : Vec F S2x2048 .bf16) :
    iprop(bAcc (F := F) c (Transfers.shareDrop fullShare 8) f
      ∗ bAcc c (tokS 0) f ∗ bAcc c (tokS 1) f ∗ bAcc c (tokS 2) f ∗ bAcc c (tokS 3) f
      ∗ bAcc c (tokS 4) f ∗ bAcc c (tokS 5) f ∗ bAcc c (tokS 6) f ∗ bAcc c (tokS 7) f) ⊢ bAcc c fullShare f := by
  unfold bAcc
  exact (sep_mono_right (Entails.of_eq (by
    rw [bigSep_univ_eq_bigSepL [0, 1, 2, 3, 4, 5, 6, 7] (by decide) (by decide)]; rfl))).trans (Transfers.pointsTo_toks_join fullShare 8)

end

end Cert.KernelIdealProof

end
-- ==== Proof.KernelIdealParts.lean ====
/-
The kernel's body at a symbolic device, part by part: each part takes the assertions its statements use and leaves what
they become.
-/
module

public import proofs.«01_k».proof.Proof.KernelIdealRules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 49 → ℕ)

/-- The result's staging buffer. -/
def oBuf (c : Dev nD) (f : Vec F S2x2048 .f32) : sProp 𝕄 := oM.view.loc (c : Thread nD τ) ↦[oM.view.set]{fullShare} f

section
variable {α : Type} {Q : α → sProp (MT nD τ sig Unit (Elt F) ℕ UU ℕ)}

/-- A program that has returned. -/
theorem wp_done (c : Dev nD) (a : α) : Q a ⊢ WP c (.ret a) Q := by
  show Q a ⊢ wp frame (wpE (defs₀ (F := F)) 𝒱₀ (c : Thread nD τ) none) Set.univ (.ret a) Q
  rw [wp_ret]; iintro H; imodintro; iexact H

/-- A load from the result's buffer -/
theorem wp_load_o (c : Dev nD) (f : Vec F S2x2048 .f32) {r : LoadRect S2x2048} {hl : oM.view.LoadsAt r}
    {kont : (r.shape.Idx → Elt F .f32) → Prog (TpuEff nD τ sig (Elt F) Λ₀ .tc) α} :
    oBuf (F := F) c f ⊢ iprop((oBuf c f -∗ WP c (kont (oM.view.readAt (Elt F) r f)) Q) -∗ WP c (.op (.load oM r hl) kont) Q) := by
  unfold oBuf
  exact wp_load 𝒱₀ (c : Thread nD τ) none Set.univ (m := oM) ((Finset.subset_univ _).trans (View.set_whole cc0_stg0_0).symm.subset)

/-- and a store over all of it. -/
theorem wp_store_o (c : Dev nD) (f w : Vec F S2x2048 .f32) {hs : (oM.access rAll).Stores Finset.univ}
    {hm : Finset.univ = Finset.univ ∨ ∀ a, rAll.stride a = 1} {kont : PUnit → Prog (TpuEff nD τ sig (Elt F) Λ₀ .tc) α} :
    oBuf (F := F) c f ⊢ iprop((oBuf c w -∗ WP c (kont ⟨⟩) Q) -∗ WP c (.op (.store oM rAll w Finset.univ hs hm) kont) Q) := by
  have e : (oM.access rAll : View sig .tc _ _ _).write (Elt F) f w Finset.univ = w := Memref.write_access_unit_zero_univ (Elt F) cc0_stg0_0 hz _ f w
  unfold oBuf
  have h := wp_store (defs := defs₀ (F := F)) (Γ := .empty) 𝒱₀ (c : Thread nD τ) none Set.univ (m := oM) (r := rAll) (w := w) (Mk := Finset.univ) (hx := hs) (hm := hm) (f := f) (k := kont) (Q := Q)
    (S := oM.view.set) ((Finset.subset_univ _).trans (View.set_whole cc0_stg0_0).symm.subset)
  rw [e] at h; exact h

end

/-- The first three fetches. -/
theorem part1 (c : Dev nD) {Q : (Σ' (d0 : Dev nD) (v2 : BitVec 32) (v5 : BitVec 32) (v8 : BitVec 32), BitVec 32) → sProp (MT nD τ sig Unit (Elt F) ℕ UU ℕ)} :
    env (F := F) m K ⊢ iprop(fetX m c 0 -∗ fetY m c 0 -∗ fetX m c 1 -∗ (∀ v2 v5 v8 v11, (midX c 0 ∗ midY c 0 ∗ midX c 1) -∗ Q ⟨c, v2, v5, v8, v11⟩)
      -∗ WP c (k0_part1 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 ) Q) := by
  rw [k0_part1_eq_skeleton]; unfold k0_part1_skel
  simp only [semSignalWord, semWaitWord, storeSubelements, Prog.lift, Prog.bind_op, Prog.bind_ret, Prog.pure_eq_ret, wp_deviceId]
  iintro #He X0 Y0 X1 Hk
  iapply (wp_fetch_x m K c 0) $$ He X0; iintro X0
  iapply (wp_fetch_y m K c 0) $$ He Y0; iintro Y0
  iapply (wp_fetch_x m K c 1) $$ He X1; iintro X1
  iapply (wp_done c _)
  iapply Hk
  isplitl [X0]; · iexact X0
  isplitl [Y0]; · iexact Y0
  iexact X1

/-- Six more. -/
theorem part2 (c : Dev nD) (w0 : BitVec 32) {Q : PUnit → sProp (MT nD τ sig Unit (Elt F) ℕ UU ℕ)} :
    env (F := F) m K ⊢ iprop(fetY m c 1 -∗ fetX m c 2 -∗ fetY m c 2 -∗ fetX m c 3 -∗ fetY m c 3 -∗ fetX m c 4 -∗ ((midY c 1 ∗ midX c 2 ∗ midY c 2 ∗ midX c 3 ∗ midY c 3 ∗ midX c 4) -∗ Q ⟨⟩)
      -∗ WP c (k0_part2 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0) Q) := by
  rw [k0_part2_eq_skeleton]; unfold k0_part2_skel
  simp only [semSignalWord, semWaitWord, storeSubelements, Prog.lift, Prog.bind_op, Prog.bind_ret, Prog.pure_eq_ret, wp_deviceId]
  iintro #He Y1 X2 Y2 X3 Y3 X4 Hk
  iapply (wp_fetch_y m K c 1) $$ He Y1; iintro Y1
  iapply (wp_fetch_x m K c 2) $$ He X2; iintro X2
  iapply (wp_fetch_y m K c 2) $$ He Y2; iintro Y2
  iapply (wp_fetch_x m K c 3) $$ He X3; iintro X3
  iapply (wp_fetch_y m K c 3) $$ He Y3; iintro Y3
  iapply (wp_fetch_x m K c 4) $$ He X4; iintro X4
  iapply (wp_done c _)
  iapply Hk
  isplitl [Y1]; · iexact Y1
  isplitl [X2]; · iexact X2
  isplitl [Y2]; · iexact Y2
  isplitl [X3]; · iexact X3
  isplitl [Y3]; · iexact Y3
  iexact X4

/-- Five more. -/
theorem part3 (c : Dev nD) (w0 : BitVec 32) {Q : PUnit → sProp (MT nD τ sig Unit (Elt F) ℕ UU ℕ)} :
    env (F := F) m K ⊢ iprop(fetY m c 4 -∗ fetX m c 5 -∗ fetY m c 5 -∗ fetX m c 6 -∗ fetY m c 6 -∗ ((midY c 4 ∗ midX c 5 ∗ midY c 5 ∗ midX c 6 ∗ midY c 6) -∗ Q ⟨⟩)
      -∗ WP c (k0_part3 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0) Q) := by
  rw [k0_part3_eq_skeleton]; unfold k0_part3_skel
  simp only [semSignalWord, semWaitWord, storeSubelements, Prog.lift, Prog.bind_op, Prog.bind_ret, Prog.pure_eq_ret, wp_deviceId]
  iintro #He Y4 X5 Y5 X6 Y6 Hk
  iapply (wp_fetch_y m K c 4) $$ He Y4; iintro Y4
  iapply (wp_fetch_x m K c 5) $$ He X5; iintro X5
  iapply (wp_fetch_y m K c 5) $$ He Y5; iintro Y5
  iapply (wp_fetch_x m K c 6) $$ He X6; iintro X6
  iapply (wp_fetch_y m K c 6) $$ He Y6; iintro Y6
  iapply (wp_done c _)
  iapply Hk
  isplitl [Y4]; · iexact Y4
  isplitl [X5]; · iexact X5
  isplitl [Y5]; · iexact Y5
  isplitl [X6]; · iexact X6
  iexact Y6

/-- The last two. -/
theorem part4 (c : Dev nD) (w0 w1 w2 w3 : BitVec 32) {Q : (Σ' (v94 : BitVec 32) (v97 : BitVec 32) (v100 : BitVec 32) (v103 : BitVec 32) (v106 : BitVec 32) (v109 : BitVec 32) (v112 : BitVec 32) (v115 : BitVec 32) (v116 : BitVec 32), BitVec 32) → sProp (MT nD τ sig Unit (Elt F) ℕ UU ℕ)} :
    env (F := F) m K ⊢ iprop(fetX m c 7 -∗ fetY m c 7 -∗ (∀ v94 v97 v100 v103 v106 v109 v112 v115 v116 v0, (midX c 7 ∗ midY c 7) -∗ Q ⟨v94, v97, v100, v103, v106, v109, v112, v115, v116, v0⟩)
      -∗ WP c (k0_part4 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3) Q) := by
  rw [k0_part4_eq_skeleton]; unfold k0_part4_skel
  simp only [semSignalWord, semWaitWord, storeSubelements, Prog.lift, Prog.bind_op, Prog.bind_ret, Prog.pure_eq_ret, wp_deviceId]
  iintro #He X7 Y7 Hk
  iapply (wp_fetch_x m K c 7) $$ He X7; iintro X7
  iapply (wp_fetch_y m K c 7) $$ He Y7; iintro Y7
  iapply (wp_done c _)
  iapply Hk
  isplitl [X7]; · iexact X7
  iexact Y7

/-- Scalar arithmetic only. -/
theorem part5 (c : Dev nD) (w0 w1 w2 w3 w4 : BitVec 32) {Q : (Σ' (v118 : BitVec 32) (v121 : BitVec 32) (v124 : BitVec 32) (v127 : BitVec 32) (v130 : BitVec 32) (v133 : BitVec 32) (v136 : BitVec 32) (v139 : BitVec 32) (v142 : BitVec 32) (v145 : BitVec 32) (v148 : BitVec 32) (v151 : BitVec 32) (v152 : BitVec 32), BitVec 32) → sProp (MT nD τ sig Unit (Elt F) ℕ UU ℕ)} :
    env (F := F) m K ⊢ iprop((∀ v118 v121 v124 v127 v130 v133 v136 v139 v142 v145 v148 v151 v152 v0, Q ⟨v118, v121, v124, v127, v130, v133, v136, v139, v142, v145, v148, v151, v152, v0⟩)
      -∗ WP c (k0_part5 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4) Q) := by
  rw [k0_part5_eq_skeleton]; unfold k0_part5_skel
  simp only [semSignalWord, semWaitWord, storeSubelements, Prog.lift, Prog.bind_op, Prog.bind_ret, Prog.pure_eq_ret, wp_deviceId]
  iintro #He  Hk
  iapply (wp_done c _)
  iapply Hk

/-- The first four signals. -/
theorem part6 (c : Dev nD) (w0 w1 w2 w3 w4 w5 w6 w7 w8 w9 w10 w11 w12 w13 w14 w15 : BitVec 32) {Q : (Σ' (v154 : BitVec 32) (v155 : Sems sig S_) (v183 : BitVec 32), BitVec 32) → sProp (MT nD τ sig Unit (Elt F) ℕ UU ℕ)} :
    env (F := F) m K ⊢ iprop(sigPre c 7 -∗ ow c (OS c order) -∗ sigPre c 3 -∗ sigPre c 5 -∗ sigPre c 6 -∗ (∀ v154 v183 v0, (ow c (OS c [1, 2, 4])) -∗ Q ⟨v154, (SemArray.scalar (sig.barrier 0 rfl)), v183, v0⟩)
      -∗ WP c (k0_part6 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6 w7 w8 w9 w10 w11 w12 w13 w14 w15) Q) := by
  rw [k0_part6_eq_skeleton]; unfold k0_part6_skel
  simp only [semSignalWord, semWaitWord, storeSubelements, Prog.lift, Prog.bind_op, Prog.bind_ret, Prog.pure_eq_ret, wp_deviceId]
  iintro #He S7 Ho S3 S5 S6 Hk
  iapply (wp_sig m K c _ 7 (dev1_eq c) (by decide) [3, 5, 6, 1, 2, 4]) $$ He S7 Ho; iintro Ho
  iapply (wp_sig m K c _ 3 (dev2_eq c) (by decide) [5, 6, 1, 2, 4]) $$ He S3 Ho; iintro Ho
  iapply (wp_sig m K c _ 5 (dev3_eq c) (by decide) [6, 1, 2, 4]) $$ He S5 Ho; iintro Ho
  iapply (wp_sig m K c _ 6 (dev4_eq c) (by decide) [1, 2, 4]) $$ He S6 Ho; iintro Ho
  iapply (wp_done c _)
  iapply Hk
  iexact Ho

/-- The last three signals, and chunk 0. -/
theorem part7 (c : Dev nD) (w0 w1 w2 w3 w4 w5 w6 w7 w8 : BitVec 32) {Q : (Σ' (v207 : Vec F S128x2048 .f32) (v213 : FVec F S128x2048 .f32), FVec F S128x2048 .f32) → sProp (MT nD τ sig Unit (Elt F) ℕ UU ℕ)} :
    env (F := F) m K ⊢ iprop(sigPre c 1 -∗ ow c (OS c [1, 2, 4]) -∗ sigPre c 2 -∗ sigPre c 4 -∗ midX c 0 -∗ midY c 0 -∗ ((ow c (OA c order) ∗ hasX m c 0 ∗ hasY m c 0) -∗ Q ⟨yin m c 0, k0_pay1 (xin m c 0), k0_pay2 (xin m c 0)⟩)
      -∗ WP c (k0_part7 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6 (SemArray.scalar (sig.barrier 0 rfl)) w7 w8) Q) := by
  rw [k0_part7_eq_skeleton]; unfold k0_part7_skel
  simp only [semSignalWord, semWaitWord, storeSubelements, Prog.lift, Prog.bind_op, Prog.bind_ret, Prog.pure_eq_ret, wp_deviceId]
  iintro #He S1 Ho S2 S4 X0 Y0 Hk
  iapply (wp_sig m K c _ 1 (dev5_eq c) (by decide) [2, 4]) $$ He S1 Ho; iintro Ho
  iapply (wp_sig m K c _ 2 (dev6_eq c) (by decide) [4]) $$ He S2 Ho; iintro Ho
  iapply (wp_sig m K c _ 4 (dev7_eq c) (by decide) []) $$ He S4 Ho; iintro Ho
  ihave Ho := (Entails.of_eq (show ow (F := F) c (OS c []) = ow c (OA c order) from rfl)) $$ Ho
  iapply (wp_wait_x m K c 0 _ (Hi_mono (Nat.zero_le 1) (Hi_OA c _))) $$ He X0 Ho; iintro ⟨Ho, X0⟩
  iapply (wp_wait_y m K c 0 _ (Hi_mono (Nat.zero_le 1) (Hi_OA c _))) $$ He Y0 Ho; iintro ⟨Ho, Y0⟩
  iapply (wp_load_x m c 0) $$ X0; iintro X0
  iapply (wp_load_y m c 0) $$ Y0; iintro Y0
  iapply (wp_done c _)
  iapply Hk
  isplitl [Ho]; · iexact Ho
  isplitl [X0]; · iexact X0
  iexact Y0

/-- Chunk 1. -/
theorem part8 (c : Dev nD) {Q : (Σ' (v225 : FVec F S2048 .f32) (v226 : FVec F S2048 .f32) (v236 : Vec F S128x2048 .f32) (v242 : FVec F S128x2048 .f32), FVec F S128x1 .f32) → sProp (MT nD τ sig Unit (Elt F) ℕ UU ℕ)} :
    env (F := F) m K ⊢ iprop(midX c 1 -∗ ow c (OA c order) -∗ midY c 1 -∗ ((hasX m c 1 ∗ ow c (OA c order) ∗ hasY m c 1) -∗ Q ⟨ga0 m c, k0_pay4 (yin m c 0), yin m c 1, k0_pay5 (xin m c 1), k0_pay6 (xin m c 1)⟩)
      -∗ WP c (k0_part8 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c (yin m c 0) (k0_pay1 (xin m c 0)) (k0_pay2 (xin m c 0))) Q) := by
  rw [k0_part8_eq_skeleton]; unfold k0_part8_skel
  simp only [semSignalWord, semWaitWord, storeSubelements, Prog.lift, Prog.bind_op, Prog.bind_ret, Prog.pure_eq_ret, wp_deviceId]
  unfold ga0
  iintro #He X1 Ho Y1 Hk
  iapply (wp_wait_x m K c 1 _ (Hi_mono (Nat.zero_le 1) (Hi_OA c _))) $$ He X1 Ho; iintro ⟨Ho, X1⟩
  iapply (wp_wait_y m K c 1 _ (Hi_mono (Nat.zero_le 1) (Hi_OA c _))) $$ He Y1 Ho; iintro ⟨Ho, Y1⟩
  iapply (wp_load_x m c 1) $$ X1; iintro X1
  iapply (wp_load_y m c 1) $$ Y1; iintro Y1
  iapply (wp_done c _)
  iapply Hk
  isplitl [X1]; · iexact X1
  isplitl [Ho]; · iexact Ho
  iexact Y1

/-- Chunk 2. -/
theorem part9 (c : Dev nD) {Q : (Σ' (v257 : FVec F S2048 .f32) (v286 : FVec F S2048 .f32), FVec F S2048 .f32) → sProp (MT nD τ sig Unit (Elt F) ℕ UU ℕ)} :
    env (F := F) m K ⊢ iprop(midX c 2 -∗ ow c (OA c order) -∗ midY c 2 -∗ ((hasX m c 2 ∗ ow c (OA c order) ∗ hasY m c 2) -∗ Q ⟨ba1 m c, k0_pay8 (yin m c 2), ga2 m c⟩)
      -∗ WP c (k0_part9 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c (ga0 m c) (k0_pay4 (yin m c 0)) (yin m c 1) (k0_pay5 (xin m c 1)) (k0_pay6 (xin m c 1))) Q) := by
  rw [k0_part9_eq_skeleton]; unfold k0_part9_skel
  simp only [semSignalWord, semWaitWord, storeSubelements, Prog.lift, Prog.bind_op, Prog.bind_ret, Prog.pure_eq_ret, wp_deviceId]
  unfold ba1 ga2
  iintro #He X2 Ho Y2 Hk
  iapply (wp_wait_x m K c 2 _ (Hi_mono (Nat.zero_le 1) (Hi_OA c _))) $$ He X2 Ho; iintro ⟨Ho, X2⟩
  iapply (wp_wait_y m K c 2 _ (Hi_mono (Nat.zero_le 1) (Hi_OA c _))) $$ He Y2 Ho; iintro ⟨Ho, Y2⟩
  iapply (wp_load_x m c 2) $$ X2; iintro X2
  iapply (wp_load_y m c 2) $$ Y2; iintro Y2
  iapply (wp_done c _)
  iapply Hk
  isplitl [X2]; · iexact X2
  isplitl [Ho]; · iexact Ho
  iexact Y2

/-- Chunk 3. -/
theorem part10 (c : Dev nD) {Q : (Σ' (v318 : FVec F S2048 .f32), FVec F S2048 .f32) → sProp (MT nD τ sig Unit (Elt F) ℕ UU ℕ)} :
    env (F := F) m K ⊢ iprop(midX c 3 -∗ ow c (OA c order) -∗ midY c 3 -∗ ((hasX m c 3 ∗ ow c (OA c order) ∗ hasY m c 3) -∗ Q ⟨ga3 m c, ba3 m c⟩)
      -∗ WP c (k0_part10 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c (ba1 m c) (k0_pay8 (yin m c 2)) (ga2 m c)) Q) := by
  rw [k0_part10_eq_skeleton]; unfold k0_part10_skel
  simp only [semSignalWord, semWaitWord, storeSubelements, Prog.lift, Prog.bind_op, Prog.bind_ret, Prog.pure_eq_ret, wp_deviceId]
  unfold ga3 ba3
  iintro #He X3 Ho Y3 Hk
  iapply (wp_wait_x m K c 3 _ (Hi_mono (Nat.zero_le 1) (Hi_OA c _))) $$ He X3 Ho; iintro ⟨Ho, X3⟩
  iapply (wp_wait_y m K c 3 _ (Hi_mono (Nat.zero_le 1) (Hi_OA c _))) $$ He Y3 Ho; iintro ⟨Ho, Y3⟩
  iapply (wp_load_x m c 3) $$ X3; iintro X3
  iapply (wp_load_y m c 3) $$ Y3; iintro Y3
  iapply (wp_done c _)
  iapply Hk
  isplitl [X3]; · iexact X3
  isplitl [Ho]; · iexact Ho
  iexact Y3

/-- Chunk 4. -/
theorem part11 (c : Dev nD) {Q : (Σ' (v349 : FVec F S2048 .f32), FVec F S2048 .f32) → sProp (MT nD τ sig Unit (Elt F) ℕ UU ℕ)} :
    env (F := F) m K ⊢ iprop(midX c 4 -∗ ow c (OA c order) -∗ midY c 4 -∗ midX c 5 -∗ ((hasX m c 4 ∗ ow c (OA c order) ∗ hasY m c 4 ∗ hasX m c 5) -∗ Q ⟨ga4 m c, ba4 m c⟩)
      -∗ WP c (k0_part11 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c (ga3 m c) (ba3 m c)) Q) := by
  rw [k0_part11_eq_skeleton]; unfold k0_part11_skel
  simp only [semSignalWord, semWaitWord, storeSubelements, Prog.lift, Prog.bind_op, Prog.bind_ret, Prog.pure_eq_ret, wp_deviceId]
  unfold ga4 ba4
  iintro #He X4 Ho Y4 X5 Hk
  iapply (wp_wait_x m K c 4 _ (Hi_mono (Nat.zero_le 1) (Hi_OA c _))) $$ He X4 Ho; iintro ⟨Ho, X4⟩
  iapply (wp_wait_y m K c 4 _ (Hi_mono (Nat.zero_le 1) (Hi_OA c _))) $$ He Y4 Ho; iintro ⟨Ho, Y4⟩
  iapply (wp_load_x m c 4) $$ X4; iintro X4
  iapply (wp_load_y m c 4) $$ Y4; iintro Y4
  iapply (wp_wait_x m K c 5 _ (Hi_mono (Nat.zero_le 1) (Hi_OA c _))) $$ He X5 Ho; iintro ⟨Ho, X5⟩
  iapply (wp_done c _)
  iapply Hk
  isplitl [X4]; · iexact X4
  isplitl [Ho]; · iexact Ho
  isplitl [Y4]; · iexact Y4
  iexact X5

/-- Chunk 5, the first accumulator, and the wait on the barrier. -/
theorem part12 (c : Dev nD) (w0 : BitVec 32) {Q : (Σ' (v390 : BitVec 32), BitVec 32) → sProp (MT nD τ sig Unit (Elt F) ℕ UU ℕ)} :
    env (F := F) m K ⊢ iprop(midY c 5 -∗ ow c (OA c order) -∗ hasX m c 5 -∗ (∃ f, aAcc c fullShare f) -∗ barPre c -∗ (∀ v390 v0, (hasY m c 5 ∗ ow c (OA c order) ∗ hasX m c 5 ∗ aAcc c (Transfers.shareDrop fullShare 8) (accA m c) ∗ semVal (barC c) 0 ∗ aAcc c (tokS 0) (accA m c) ∗ aAcc c (tokS 1) (accA m c) ∗ aAcc c (tokS 2) (accA m c) ∗ aAcc c (tokS 3) (accA m c) ∗ aAcc c (tokS 4) (accA m c) ∗ aAcc c (tokS 5) (accA m c) ∗ aAcc c (tokS 6) (accA m c) ∗ aAcc c (tokS 7) (accA m c) ∗ (∃ f, aSlot (peer c 1) 1 f) ∗ (∃ f, bSlot (peer c 1) 1 f) ∗ (∃ f, aSlot (peer c 2) 2 f) ∗ (∃ f, bSlot (peer c 2) 2 f) ∗ (∃ f, aSlot (peer c 3) 3 f) ∗ (∃ f, bSlot (peer c 3) 3 f) ∗ (∃ f, aSlot (peer c 4) 4 f) ∗ (∃ f, bSlot (peer c 4) 4 f) ∗ (∃ f, aSlot (peer c 5) 5 f) ∗ (∃ f, bSlot (peer c 5) 5 f) ∗ (∃ f, aSlot (peer c 6) 6 f) ∗ (∃ f, bSlot (peer c 6) 6 f) ∗ (∃ f, aSlot (peer c 7) 7 f) ∗ (∃ f, bSlot (peer c 7) 7 f)) -∗ Q ⟨v390, v0⟩)
      -∗ WP c (k0_part12 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 (SemArray.scalar (sig.barrier 0 rfl)) (ga4 m c) (ba4 m c)) Q) := by
  rw [k0_part12_eq_skeleton]; unfold k0_part12_skel
  simp only [semSignalWord, semWaitWord, storeSubelements, Prog.lift, Prog.bind_op, Prog.bind_ret, Prog.pure_eq_ret, wp_deviceId]
  iintro #He Y5 Ho X5 AA Bar Hk
  iapply (wp_wait_y m K c 5 _ (Hi_mono (Nat.zero_le 1) (Hi_OA c _))) $$ He Y5 Ho; iintro ⟨Ho, Y5⟩
  iapply (wp_load_x m c 5) $$ X5; iintro X5
  iapply (wp_load_y m c 5) $$ Y5; iintro Y5
  icases AA with ⟨%fa, AA⟩
  iapply (wp_load_acc_a c fullShare _ _) $$ AA; iintro AA
  iapply (wp_load_all_a c fullShare _) $$ AA; iintro AA
  iapply (wp_store_a c _ _) $$ AA; iintro AA
  iapply (wp_load_acc_a c fullShare _ _) $$ AA; iintro AA
  iapply (wp_load_all_a c fullShare _) $$ AA; iintro AA
  iapply (wp_store_a c _ _) $$ AA; iintro AA
  have hd := deal_a m c fa
  unfold stack rowA0 rowA1 at hd
  ihave AA := hd $$ AA
  icases AA with ⟨AA, AT0, AT1, AT2, AT3, AT4, AT5, AT6, AT7⟩
  iapply (wp_bar m K c) $$ He Bar Ho; iintro ⟨Ho, Bar, P1, P2, P3, P4, P5, P6, P7⟩
  unfold barPay
  icases P1 with ⟨PA1, PB1⟩
  icases P2 with ⟨PA2, PB2⟩
  icases P3 with ⟨PA3, PB3⟩
  icases P4 with ⟨PA4, PB4⟩
  icases P5 with ⟨PA5, PB5⟩
  icases P6 with ⟨PA6, PB6⟩
  icases P7 with ⟨PA7, PB7⟩
  iapply (wp_done c _)
  iapply Hk
  isplitl [Y5]; · iexact Y5
  isplitl [Ho]; · iexact Ho
  isplitl [X5]; · iexact X5
  isplitl [AA]; · iexact AA
  isplitl [Bar]; · iexact Bar
  isplitl [AT0]; · iexact AT0
  isplitl [AT1]; · iexact AT1
  isplitl [AT2]; · iexact AT2
  isplitl [AT3]; · iexact AT3
  isplitl [AT4]; · iexact AT4
  isplitl [AT5]; · iexact AT5
  isplitl [AT6]; · iexact AT6
  isplitl [AT7]; · iexact AT7
  isplitl [PA1]; · iexact PA1
  isplitl [PB1]; · iexact PB1
  isplitl [PA2]; · iexact PA2
  isplitl [PB2]; · iexact PB2
  isplitl [PA3]; · iexact PA3
  isplitl [PB3]; · iexact PB3
  isplitl [PA4]; · iexact PA4
  isplitl [PB4]; · iexact PB4
  isplitl [PA5]; · iexact PA5
  isplitl [PB5]; · iexact PB5
  isplitl [PA6]; · iexact PA6
  isplitl [PB6]; · iexact PB6
  isplitl [PA7]; · iexact PA7
  iexact PB7

/-- Three copies of the first accumulator. -/
theorem part13 (c : Dev nD) (w0 w1 w2 w3 w4 w5 w6 w7 w8 w9 : BitVec 32) {Q : PUnit → sProp (MT nD τ sig Unit (Elt F) ℕ UU ℕ)} :
    env (F := F) m K ⊢ iprop(sndA c 7 -∗ aAcc c (tokS 7) (accA m c) -∗ (∃ f, aSlot (peer c 7) 7 f) -∗ ow c (OA c order) -∗ sndA c 3 -∗ aAcc c (tokS 3) (accA m c) -∗ (∃ f, aSlot (peer c 3) 3 f) -∗ sndA c 5 -∗ aAcc c (tokS 5) (accA m c) -∗ (∃ f, aSlot (peer c 5) 5 f) -∗ ((flyA c 7 ∗ ow c (OA c [6, 1, 2, 4]) ∗ flyA c 3 ∗ flyA c 5) -∗ Q ⟨⟩)
      -∗ WP c (k0_part13 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6 w7 w8 w9) Q) := by
  rw [k0_part13_eq_skeleton]; unfold k0_part13_skel
  simp only [semSignalWord, semWaitWord, storeSubelements, Prog.lift, Prog.bind_op, Prog.bind_ret, Prog.pure_eq_ret, wp_deviceId]
  iintro #He AS7 AT7 PA7 Ho AS3 AT3 PA3 AS5 AT5 PA5 Hk
  iapply (wp_send_a m K c _ 7 (dev8_eq c) (by decide) [3, 5, 6, 1, 2, 4]) $$ He AS7 AT7 PA7 Ho; iintro ⟨Ho, AS7⟩
  iapply (wp_send_a m K c _ 3 (dev9_eq c) (by decide) [5, 6, 1, 2, 4]) $$ He AS3 AT3 PA3 Ho; iintro ⟨Ho, AS3⟩
  iapply (wp_send_a m K c _ 5 (dev10_eq c) (by decide) [6, 1, 2, 4]) $$ He AS5 AT5 PA5 Ho; iintro ⟨Ho, AS5⟩
  iapply (wp_done c _)
  iapply Hk
  isplitl [AS7]; · iexact AS7
  isplitl [Ho]; · iexact Ho
  isplitl [AS3]; · iexact AS3
  iexact AS5

/-- Two more. -/
theorem part14 (c : Dev nD) (w0 w1 w2 w3 w4 w5 w6 w7 w8 : BitVec 32) {Q : PUnit → sProp (MT nD τ sig Unit (Elt F) ℕ UU ℕ)} :
    env (F := F) m K ⊢ iprop(sndA c 6 -∗ aAcc c (tokS 6) (accA m c) -∗ (∃ f, aSlot (peer c 6) 6 f) -∗ ow c (OA c [6, 1, 2, 4]) -∗ sndA c 1 -∗ aAcc c (tokS 1) (accA m c) -∗ (∃ f, aSlot (peer c 1) 1 f) -∗ ((flyA c 6 ∗ ow c (OA c [2, 4]) ∗ flyA c 1) -∗ Q ⟨⟩)
      -∗ WP c (k0_part14 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6 w7 w8) Q) := by
  rw [k0_part14_eq_skeleton]; unfold k0_part14_skel
  simp only [semSignalWord, semWaitWord, storeSubelements, Prog.lift, Prog.bind_op, Prog.bind_ret, Prog.pure_eq_ret, wp_deviceId]
  iintro #He AS6 AT6 PA6 Ho AS1 AT1 PA1 Hk
  iapply (wp_send_a m K c _ 6 (dev11_eq c) (by decide) [1, 2, 4]) $$ He AS6 AT6 PA6 Ho; iintro ⟨Ho, AS6⟩
  iapply (wp_send_a m K c _ 1 (dev12_eq c) (by decide) [2, 4]) $$ He AS1 AT1 PA1 Ho; iintro ⟨Ho, AS1⟩
  iapply (wp_done c _)
  iapply Hk
  isplitl [AS6]; · iexact AS6
  isplitl [Ho]; · iexact Ho
  iexact AS1

/-- The last two, and chunk 6. -/
theorem part15 (c : Dev nD) (w0 w1 w2 : BitVec 32) {Q : (Σ' (v483 : Vec F S128x2048 .f32), FVec F S128x2048 .f32) → sProp (MT nD τ sig Unit (Elt F) ℕ UU ℕ)} :
    env (F := F) m K ⊢ iprop(sndA c 2 -∗ aAcc c (tokS 2) (accA m c) -∗ (∃ f, aSlot (peer c 2) 2 f) -∗ ow c (OA c [2, 4]) -∗ sndA c 4 -∗ aAcc c (tokS 4) (accA m c) -∗ (∃ f, aSlot (peer c 4) 4 f) -∗ midX c 6 -∗ midY c 6 -∗ ((flyA c 2 ∗ ow c (OB c order) ∗ flyA c 4 ∗ hasX m c 6 ∗ hasY m c 6) -∗ Q ⟨yin m c 6, k0_pay16 (xin m c 6)⟩)
      -∗ WP c (k0_part15 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2) Q) := by
  rw [k0_part15_eq_skeleton]; unfold k0_part15_skel
  simp only [semSignalWord, semWaitWord, storeSubelements, Prog.lift, Prog.bind_op, Prog.bind_ret, Prog.pure_eq_ret, wp_deviceId]
  iintro #He AS2 AT2 PA2 Ho AS4 AT4 PA4 X6 Y6 Hk
  iapply (wp_send_a m K c _ 2 (dev13_eq c) (by decide) [4]) $$ He AS2 AT2 PA2 Ho; iintro ⟨Ho, AS2⟩
  iapply (wp_send_a m K c _ 4 (dev14_eq c) (by decide) []) $$ He AS4 AT4 PA4 Ho; iintro ⟨Ho, AS4⟩
  ihave Ho := (Entails.of_eq (show ow (F := F) c (OA c []) = ow c (OB c order) from rfl)) $$ Ho
  iapply (wp_wait_x m K c 6 _ (Hi_mono (Nat.zero_le 1) (Hi_OB c _))) $$ He X6 Ho; iintro ⟨Ho, X6⟩
  iapply (wp_wait_y m K c 6 _ (Hi_mono (Nat.zero_le 1) (Hi_OB c _))) $$ He Y6 Ho; iintro ⟨Ho, Y6⟩
  iapply (wp_load_x m c 6) $$ X6; iintro X6
  iapply (wp_load_y m c 6) $$ Y6; iintro Y6
  iapply (wp_done c _)
  iapply Hk
  isplitl [AS2]; · iexact AS2
  isplitl [Ho]; · iexact Ho
  isplitl [AS4]; · iexact AS4
  isplitl [X6]; · iexact X6
  iexact Y6

/-- Chunk 7. -/
theorem part16 (c : Dev nD) {Q : (Σ' (v501 : FVec F S2048 .f32) (v502 : FVec F S2048 .f32) (v512 : Vec F S128x2048 .f32) (v518 : FVec F S128x2048 .f32), FVec F S128x1 .f32) → sProp (MT nD τ sig Unit (Elt F) ℕ UU ℕ)} :
    env (F := F) m K ⊢ iprop(midX c 7 -∗ ow c (OB c order) -∗ midY c 7 -∗ ((hasX m c 7 ∗ ow c (OB c order) ∗ hasY m c 7) -∗ Q ⟨gb6 m c, k0_pay18 (yin m c 6), yin m c 7, k0_pay19 (xin m c 7), k0_pay20 (xin m c 7)⟩)
      -∗ WP c (k0_part16 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c (yin m c 6) (k0_pay16 (xin m c 6))) Q) := by
  rw [k0_part16_eq_skeleton]; unfold k0_part16_skel
  simp only [semSignalWord, semWaitWord, storeSubelements, Prog.lift, Prog.bind_op, Prog.bind_ret, Prog.pure_eq_ret, wp_deviceId]
  unfold gb6
  iintro #He X7 Ho Y7 Hk
  iapply (wp_wait_x m K c 7 _ (Hi_mono (Nat.zero_le 1) (Hi_OB c _))) $$ He X7 Ho; iintro ⟨Ho, X7⟩
  iapply (wp_wait_y m K c 7 _ (Hi_mono (Nat.zero_le 1) (Hi_OB c _))) $$ He Y7 Ho; iintro ⟨Ho, Y7⟩
  iapply (wp_load_x m c 7) $$ X7; iintro X7
  iapply (wp_load_y m c 7) $$ Y7; iintro Y7
  iapply (wp_done c _)
  iapply Hk
  isplitl [X7]; · iexact X7
  isplitl [Ho]; · iexact Ho
  iexact Y7

/-- The second accumulator and its first copy. -/
theorem part17 (c : Dev nD) (w0 w1 w2 w3 w4 w5 : BitVec 32) {Q : PUnit → sProp (MT nD τ sig Unit (Elt F) ℕ UU ℕ)} :
    env (F := F) m K ⊢ iprop((∃ f, bAcc c fullShare f) -∗ sndB c 7 -∗ (∃ f, bSlot (peer c 7) 7 f) -∗ ow c (OB c order) -∗ ((bAcc c (Transfers.shareDrop fullShare 8) (accB m c) ∗ flyB c 7 ∗ ow c (OB c [3, 5, 6, 1, 2, 4]) ∗ bAcc c (tokS 0) (accB m c) ∗ bAcc c (tokS 1) (accB m c) ∗ bAcc c (tokS 2) (accB m c) ∗ bAcc c (tokS 3) (accB m c) ∗ bAcc c (tokS 4) (accB m c) ∗ bAcc c (tokS 5) (accB m c) ∗ bAcc c (tokS 6) (accB m c)) -∗ Q ⟨⟩)
      -∗ WP c (k0_part17 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 (gb6 m c) (k0_pay18 (yin m c 6)) (yin m c 7) (k0_pay19 (xin m c 7)) (k0_pay20 (xin m c 7))) Q) := by
  rw [k0_part17_eq_skeleton]; unfold k0_part17_skel
  simp only [semSignalWord, semWaitWord, storeSubelements, Prog.lift, Prog.bind_op, Prog.bind_ret, Prog.pure_eq_ret, wp_deviceId]
  iintro #He BB BS7 PB7 Ho Hk
  icases BB with ⟨%fa, BB⟩
  iapply (wp_load_acc_b c fullShare _ _) $$ BB; iintro BB
  iapply (wp_load_all_b c fullShare _) $$ BB; iintro BB
  iapply (wp_store_b c _ _) $$ BB; iintro BB
  iapply (wp_load_acc_b c fullShare _ _) $$ BB; iintro BB
  iapply (wp_load_all_b c fullShare _) $$ BB; iintro BB
  iapply (wp_store_b c _ _) $$ BB; iintro BB
  have hd := deal_b m c fa
  unfold stack rowB0 rowB1 at hd
  ihave BB := hd $$ BB
  icases BB with ⟨BB, BT0, BT1, BT2, BT3, BT4, BT5, BT6, BT7⟩
  iapply (wp_send_b m K c _ 7 (dev15_eq c) (by decide) [3, 5, 6, 1, 2, 4]) $$ He BS7 BT7 PB7 Ho; iintro ⟨Ho, BS7⟩
  iapply (wp_done c _)
  iapply Hk
  isplitl [BB]; · iexact BB
  isplitl [BS7]; · iexact BS7
  isplitl [Ho]; · iexact Ho
  isplitl [BT0]; · iexact BT0
  isplitl [BT1]; · iexact BT1
  isplitl [BT2]; · iexact BT2
  isplitl [BT3]; · iexact BT3
  isplitl [BT4]; · iexact BT4
  isplitl [BT5]; · iexact BT5
  iexact BT6

/-- Three more copies of it. -/
theorem part18 (c : Dev nD) (w0 w1 w2 w3 w4 w5 w6 : BitVec 32) {Q : (Σ' (v591 : BitVec 32), BitVec 32) → sProp (MT nD τ sig Unit (Elt F) ℕ UU ℕ)} :
    env (F := F) m K ⊢ iprop(sndB c 3 -∗ bAcc c (tokS 3) (accB m c) -∗ (∃ f, bSlot (peer c 3) 3 f) -∗ ow c (OB c [3, 5, 6, 1, 2, 4]) -∗ sndB c 5 -∗ bAcc c (tokS 5) (accB m c) -∗ (∃ f, bSlot (peer c 5) 5 f) -∗ sndB c 6 -∗ bAcc c (tokS 6) (accB m c) -∗ (∃ f, bSlot (peer c 6) 6 f) -∗ (∀ v591 v0, (flyB c 3 ∗ ow c (OB c [1, 2, 4]) ∗ flyB c 5 ∗ flyB c 6) -∗ Q ⟨v591, v0⟩)
      -∗ WP c (k0_part18 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6) Q) := by
  rw [k0_part18_eq_skeleton]; unfold k0_part18_skel
  simp only [semSignalWord, semWaitWord, storeSubelements, Prog.lift, Prog.bind_op, Prog.bind_ret, Prog.pure_eq_ret, wp_deviceId]
  iintro #He BS3 BT3 PB3 Ho BS5 BT5 PB5 BS6 BT6 PB6 Hk
  iapply (wp_send_b m K c _ 3 (dev16_eq c) (by decide) [5, 6, 1, 2, 4]) $$ He BS3 BT3 PB3 Ho; iintro ⟨Ho, BS3⟩
  iapply (wp_send_b m K c _ 5 (dev17_eq c) (by decide) [6, 1, 2, 4]) $$ He BS5 BT5 PB5 Ho; iintro ⟨Ho, BS5⟩
  iapply (wp_send_b m K c _ 6 (dev18_eq c) (by decide) [1, 2, 4]) $$ He BS6 BT6 PB6 Ho; iintro ⟨Ho, BS6⟩
  iapply (wp_done c _)
  iapply Hk
  isplitl [BS3]; · iexact BS3
  isplitl [Ho]; · iexact Ho
  isplitl [BS5]; · iexact BS5
  iexact BS6

/-- The last three. -/
theorem part19 (c : Dev nD) (w0 w1 w2 w3 w4 w5 w6 w7 w8 w9 : BitVec 32) {Q : PUnit → sProp (MT nD τ sig Unit (Elt F) ℕ UU ℕ)} :
    env (F := F) m K ⊢ iprop(sndB c 1 -∗ bAcc c (tokS 1) (accB m c) -∗ (∃ f, bSlot (peer c 1) 1 f) -∗ ow c (OB c [1, 2, 4]) -∗ sndB c 2 -∗ bAcc c (tokS 2) (accB m c) -∗ (∃ f, bSlot (peer c 2) 2 f) -∗ sndB c 4 -∗ bAcc c (tokS 4) (accB m c) -∗ (∃ f, bSlot (peer c 4) 4 f) -∗ ((flyB c 1 ∗ ow c (0) ∗ flyB c 2 ∗ flyB c 4) -∗ Q ⟨⟩)
      -∗ WP c (k0_part19 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 c w0 w1 w2 w3 w4 w5 w6 w7 w8 w9) Q) := by
  rw [k0_part19_eq_skeleton]; unfold k0_part19_skel
  simp only [semSignalWord, semWaitWord, storeSubelements, Prog.lift, Prog.bind_op, Prog.bind_ret, Prog.pure_eq_ret, wp_deviceId]
  iintro #He BS1 BT1 PB1 Ho BS2 BT2 PB2 BS4 BT4 PB4 Hk
  iapply (wp_send_b m K c _ 1 (dev19_eq c) (by decide) [2, 4]) $$ He BS1 BT1 PB1 Ho; iintro ⟨Ho, BS1⟩
  iapply (wp_send_b m K c _ 2 (dev20_eq c) (by decide) [4]) $$ He BS2 BT2 PB2 Ho; iintro ⟨Ho, BS2⟩
  iapply (wp_send_b m K c _ 4 (dev21_eq c) (by decide) []) $$ He BS4 BT4 PB4 Ho; iintro ⟨Ho, BS4⟩
  ihave Ho := (Entails.of_eq (show ow (F := F) c (OB c []) = ow c (0) from rfl)) $$ Ho
  iapply (wp_done c _)
  iapply Hk
  isplitl [BS1]; · iexact BS1
  isplitl [Ho]; · iexact Ho
  isplitl [BS2]; · iexact BS2
  iexact BS4

/-- The device's own sums, and two partners' first halves. -/
theorem part20 (c : Dev nD) (w0 w1 w2 w3 w4 w5 : BitVec 32) {Q : (Σ' (v644 : FVec F S2x2048 .f32), FVec F S2x2048 .f32) → sProp (MT nD τ sig Unit (Elt F) ℕ UU ℕ)} :
    env (F := F) m K ⊢ iprop(aAcc c (Transfers.shareDrop fullShare 8) (accA m c) -∗ bAcc c (Transfers.shareDrop fullShare 8) (accB m c) -∗ rcvA c 4 -∗ ow c (0) -∗ rcvA c 2 -∗ ((aAcc c (Transfers.shareDrop fullShare 8) (accA m c) ∗ bAcc c (Transfers.shareDrop fullShare 8) (accB m c) ∗ gotA m c 4 ∗ ow c (0) ∗ gotA m c 2) -∗ Q ⟨k0_pay23 (accA m c) (accB m c) (aGot m c 4), k0_pay24 (aGot m c 2)⟩)
      -∗ WP c (k0_part20 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5) Q) := by
  rw [k0_part20_eq_skeleton]; unfold k0_part20_skel
  simp only [semSignalWord, semWaitWord, storeSubelements, Prog.lift, Prog.bind_op, Prog.bind_ret, Prog.pure_eq_ret, wp_deviceId]
  iintro #He AA BB AR4 Ho AR2 Hk
  iapply (wp_load_all_a c (Transfers.shareDrop fullShare 8) _) $$ AA; iintro AA
  iapply (wp_load_all_b c (Transfers.shareDrop fullShare 8) _) $$ BB; iintro BB
  iapply (wp_recv_a m K c 4 (by decide)) $$ He AR4 Ho; iintro ⟨Ho, AR4⟩
  iapply (wp_load_slot_a m c 4) $$ AR4; iintro AR4
  iapply (wp_recv_a m K c 2 (by decide)) $$ He AR2 Ho; iintro ⟨Ho, AR2⟩
  iapply (wp_load_slot_a m c 2) $$ AR2; iintro AR2
  iapply (wp_done c _)
  iapply Hk
  isplitl [AA]; · iexact AA
  isplitl [BB]; · iexact BB
  isplitl [AR4]; · iexact AR4
  isplitl [Ho]; · iexact Ho
  iexact AR2

/-- Two more. -/
theorem part21 (c : Dev nD) (w0 w1 w2 w3 w4 w5 w6 : BitVec 32) {Q : (Σ' (v686 : FVec F S2x2048 .f32), BitVec 32) → sProp (MT nD τ sig Unit (Elt F) ℕ UU ℕ)} :
    env (F := F) m K ⊢ iprop(rcvA c 1 -∗ ow c (0) -∗ rcvA c 6 -∗ (∀ v687, (gotA m c 1 ∗ ow c (0) ∗ gotA m c 6) -∗ Q ⟨t1 m c, v687⟩)
      -∗ WP c (k0_part21 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5 w6 (k0_pay23 (accA m c) (accB m c) (aGot m c 4)) (k0_pay24 (aGot m c 2))) Q) := by
  rw [k0_part21_eq_skeleton]; unfold k0_part21_skel
  simp only [semSignalWord, semWaitWord, storeSubelements, Prog.lift, Prog.bind_op, Prog.bind_ret, Prog.pure_eq_ret, wp_deviceId]
  unfold t1
  iintro #He AR1 Ho AR6 Hk
  iapply (wp_recv_a m K c 1 (by decide)) $$ He AR1 Ho; iintro ⟨Ho, AR1⟩
  iapply (wp_load_slot_a m c 1) $$ AR1; iintro AR1
  iapply (wp_recv_a m K c 6 (by decide)) $$ He AR6 Ho; iintro ⟨Ho, AR6⟩
  iapply (wp_load_slot_a m c 6) $$ AR6; iintro AR6
  iapply (wp_done c _)
  iapply Hk
  isplitl [AR1]; · iexact AR1
  isplitl [Ho]; · iexact Ho
  iexact AR6

/-- Two more. -/
theorem part22 (c : Dev nD) (w0 w1 w2 w3 w4 w5 w6 w7 : BitVec 32) {Q : (Σ' (v714 : FVec F S2x2048 .f32) (v718 : BitVec 32), BitVec 32) → sProp (MT nD τ sig Unit (Elt F) ℕ UU ℕ)} :
    env (F := F) m K ⊢ iprop(rcvA c 5 -∗ ow c (0) -∗ rcvA c 3 -∗ (∀ v718 v0, (gotA m c 5 ∗ ow c (0) ∗ gotA m c 3) -∗ Q ⟨k0_pay26 (t1 m c) (aGot m c 5) (aGot m c 3), v718, v0⟩)
      -∗ WP c (k0_part22 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5 w6 (t1 m c) w7) Q) := by
  rw [k0_part22_eq_skeleton]; unfold k0_part22_skel
  simp only [semSignalWord, semWaitWord, storeSubelements, Prog.lift, Prog.bind_op, Prog.bind_ret, Prog.pure_eq_ret, wp_deviceId]
  iintro #He AR5 Ho AR3 Hk
  iapply (wp_recv_a m K c 5 (by decide)) $$ He AR5 Ho; iintro ⟨Ho, AR5⟩
  iapply (wp_load_slot_a m c 5) $$ AR5; iintro AR5
  iapply (wp_recv_a m K c 3 (by decide)) $$ He AR3 Ho; iintro ⟨Ho, AR3⟩
  iapply (wp_load_slot_a m c 3) $$ AR3; iintro AR3
  iapply (wp_done c _)
  iapply Hk
  isplitl [AR5]; · iexact AR5
  isplitl [Ho]; · iexact Ho
  iexact AR3

/-- The last first half, and a second half. -/
theorem part23 (c : Dev nD) (w0 w1 w2 w3 w4 w5 w6 w7 w8 : BitVec 32) {Q : FVec F S2x2048 .f32 → sProp (MT nD τ sig Unit (Elt F) ℕ UU ℕ)} :
    env (F := F) m K ⊢ iprop(rcvA c 7 -∗ ow c (0) -∗ rcvB c 4 -∗ ((gotA m c 7 ∗ ow c (0) ∗ gotB m c 4) -∗ Q (t2 m c))
      -∗ WP c (k0_part23 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5 w6 (k0_pay26 (t1 m c) (aGot m c 5) (aGot m c 3)) w7 w8) Q) := by
  rw [k0_part23_eq_skeleton]; unfold k0_part23_skel
  simp only [semSignalWord, semWaitWord, storeSubelements, Prog.lift, Prog.bind_op, Prog.bind_ret, Prog.pure_eq_ret, wp_deviceId]
  unfold t2
  iintro #He AR7 Ho BR4 Hk
  iapply (wp_recv_a m K c 7 (by decide)) $$ He AR7 Ho; iintro ⟨Ho, AR7⟩
  iapply (wp_load_slot_a m c 7) $$ AR7; iintro AR7
  iapply (wp_recv_b m K c 4 (by decide)) $$ He BR4 Ho; iintro ⟨Ho, BR4⟩
  iapply (wp_load_slot_b m c 4) $$ BR4; iintro BR4
  iapply (wp_done c _)
  iapply Hk
  isplitl [AR7]; · iexact AR7
  isplitl [Ho]; · iexact Ho
  iexact BR4

/-- Second halves. -/
theorem part24 (c : Dev nD) (w0 w1 w2 w3 w4 w5 : BitVec 32) {Q : FVec F S2x2048 .f32 → sProp (MT nD τ sig Unit (Elt F) ℕ UU ℕ)} :
    env (F := F) m K ⊢ iprop(rcvB c 2 -∗ ow c (0) -∗ rcvB c 1 -∗ rcvB c 6 -∗ ((gotB m c 2 ∗ ow c (0) ∗ gotB m c 1 ∗ gotB m c 6) -∗ Q (t3 m c))
      -∗ WP c (k0_part24 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5 (t2 m c)) Q) := by
  rw [k0_part24_eq_skeleton]; unfold k0_part24_skel
  simp only [semSignalWord, semWaitWord, storeSubelements, Prog.lift, Prog.bind_op, Prog.bind_ret, Prog.pure_eq_ret, wp_deviceId]
  unfold t3
  iintro #He BR2 Ho BR1 BR6 Hk
  iapply (wp_recv_b m K c 2 (by decide)) $$ He BR2 Ho; iintro ⟨Ho, BR2⟩
  iapply (wp_load_slot_b m c 2) $$ BR2; iintro BR2
  iapply (wp_recv_b m K c 1 (by decide)) $$ He BR1 Ho; iintro ⟨Ho, BR1⟩
  iapply (wp_load_slot_b m c 1) $$ BR1; iintro BR1
  iapply (wp_recv_b m K c 6 (by decide)) $$ He BR6 Ho; iintro ⟨Ho, BR6⟩
  iapply (wp_done c _)
  iapply Hk
  isplitl [BR2]; · iexact BR2
  isplitl [Ho]; · iexact Ho
  isplitl [BR1]; · iexact BR1
  iexact BR6

/-- Second halves. -/
theorem part25 (c : Dev nD) (w0 w1 w2 w3 w4 w5 : BitVec 32) {Q : FVec F S2x2048 .f32 → sProp (MT nD τ sig Unit (Elt F) ℕ UU ℕ)} :
    env (F := F) m K ⊢ iprop(gotB m c 6 -∗ rcvB c 5 -∗ ow c (0) -∗ rcvB c 3 -∗ ((gotB m c 6 ∗ gotB m c 5 ∗ ow c (0) ∗ gotB m c 3) -∗ Q (t4 m c))
      -∗ WP c (k0_part25 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 w3 w4 w5 (t3 m c)) Q) := by
  rw [k0_part25_eq_skeleton]; unfold k0_part25_skel
  simp only [semSignalWord, semWaitWord, storeSubelements, Prog.lift, Prog.bind_op, Prog.bind_ret, Prog.pure_eq_ret, wp_deviceId]
  unfold t4
  iintro #He BR6 BR5 Ho BR3 Hk
  iapply (wp_load_slot_b m c 6) $$ BR6; iintro BR6
  iapply (wp_recv_b m K c 5 (by decide)) $$ He BR5 Ho; iintro ⟨Ho, BR5⟩
  iapply (wp_load_slot_b m c 5) $$ BR5; iintro BR5
  iapply (wp_recv_b m K c 3 (by decide)) $$ He BR3 Ho; iintro ⟨Ho, BR3⟩
  iapply (wp_load_slot_b m c 3) $$ BR3; iintro BR3
  iapply (wp_done c _)
  iapply Hk
  isplitl [BR6]; · iexact BR6
  isplitl [BR5]; · iexact BR5
  isplitl [Ho]; · iexact Ho
  iexact BR3

/-- The last second half, the result stored, and the first copies waited for. -/
theorem part26 (c : Dev nD) (w0 w1 w2 : BitVec 32) {Q : PUnit → sProp (MT nD τ sig Unit (Elt F) ℕ UU ℕ)} :
    env (F := F) m K ⊢ iprop(rcvB c 7 -∗ ow c (0) -∗ (∃ f, oBuf c f) -∗ flyA c 7 -∗ flyA c 3 -∗ ((gotB m c 7 ∗ ow c (0) ∗ oBuf c (outAt m c) ∗ bckA m c 7 ∗ bckA m c 3) -∗ Q ⟨⟩)
      -∗ WP c (k0_part26 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 w0 w1 w2 (t4 m c)) Q) := by
  rw [k0_part26_eq_skeleton]; unfold k0_part26_skel
  simp only [semSignalWord, semWaitWord, storeSubelements, Prog.lift, Prog.bind_op, Prog.bind_ret, Prog.pure_eq_ret, wp_deviceId]
  iintro #He BR7 Ho Out AS7 AS3 Hk
  iapply (wp_recv_b m K c 7 (by decide)) $$ He BR7 Ho; iintro ⟨Ho, BR7⟩
  iapply (wp_load_slot_b m c 7) $$ BR7; iintro BR7
  icases Out with ⟨%fo, Out⟩
  iapply (wp_load_o c _) $$ Out; iintro Out
  iapply (wp_store_o c _ _) $$ Out; iintro Out
  iapply (wp_back_a m K c 7 (by decide)) $$ He AS7 Ho; iintro ⟨Ho, AS7⟩
  iapply (wp_back_a m K c 3 (by decide)) $$ He AS3 Ho; iintro ⟨Ho, AS3⟩
  iapply (wp_done c _)
  iapply Hk
  isplitl [BR7]; · iexact BR7
  isplitl [Ho]; · iexact Ho
  isplitl [Out]; · iexact Out
  isplitl [AS7]; · iexact AS7
  iexact AS3

/-- Copies waited for. -/
theorem part27 (c : Dev nD) {Q : PUnit → sProp (MT nD τ sig Unit (Elt F) ℕ UU ℕ)} :
    env (F := F) m K ⊢ iprop(flyA c 5 -∗ ow c (0) -∗ flyA c 6 -∗ flyA c 1 -∗ flyA c 2 -∗ flyA c 4 -∗ flyB c 7 -∗ ((bckA m c 5 ∗ ow c (0) ∗ bckA m c 6 ∗ bckA m c 1 ∗ bckA m c 2 ∗ bckA m c 4 ∗ bckB m c 7) -∗ Q ⟨⟩)
      -∗ WP c (k0_part27 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 ) Q) := by
  rw [k0_part27_eq_skeleton]; unfold k0_part27_skel
  simp only [semSignalWord, semWaitWord, storeSubelements, Prog.lift, Prog.bind_op, Prog.bind_ret, Prog.pure_eq_ret, wp_deviceId]
  iintro #He AS5 Ho AS6 AS1 AS2 AS4 BS7 Hk
  iapply (wp_back_a m K c 5 (by decide)) $$ He AS5 Ho; iintro ⟨Ho, AS5⟩
  iapply (wp_back_a m K c 6 (by decide)) $$ He AS6 Ho; iintro ⟨Ho, AS6⟩
  iapply (wp_back_a m K c 1 (by decide)) $$ He AS1 Ho; iintro ⟨Ho, AS1⟩
  iapply (wp_back_a m K c 2 (by decide)) $$ He AS2 Ho; iintro ⟨Ho, AS2⟩
  iapply (wp_back_a m K c 4 (by decide)) $$ He AS4 Ho; iintro ⟨Ho, AS4⟩
  iapply (wp_back_b m K c 7 (by decide)) $$ He BS7 Ho; iintro ⟨Ho, BS7⟩
  iapply (wp_done c _)
  iapply Hk
  isplitl [AS5]; · iexact AS5
  isplitl [Ho]; · iexact Ho
  isplitl [AS6]; · iexact AS6
  isplitl [AS1]; · iexact AS1
  isplitl [AS2]; · iexact AS2
  isplitl [AS4]; · iexact AS4
  iexact BS7

/-- Copies waited for. -/
theorem part28 (c : Dev nD) {Q : PUnit → sProp (MT nD τ sig Unit (Elt F) ℕ UU ℕ)} :
    env (F := F) m K ⊢ iprop(flyB c 3 -∗ ow c (0) -∗ flyB c 5 -∗ flyB c 6 -∗ flyB c 1 -∗ flyB c 2 -∗ ((bckB m c 3 ∗ ow c (0) ∗ bckB m c 5 ∗ bckB m c 6 ∗ bckB m c 1 ∗ bckB m c 2) -∗ Q ⟨⟩)
      -∗ WP c (k0_part28 xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11 ) Q) := by
  rw [k0_part28_eq_skeleton]; unfold k0_part28_skel
  simp only [semSignalWord, semWaitWord, storeSubelements, Prog.lift, Prog.bind_op, Prog.bind_ret, Prog.pure_eq_ret, wp_deviceId]
  iintro #He BS3 Ho BS5 BS6 BS1 BS2 Hk
  iapply (wp_back_b m K c 3 (by decide)) $$ He BS3 Ho; iintro ⟨Ho, BS3⟩
  iapply (wp_back_b m K c 5 (by decide)) $$ He BS5 Ho; iintro ⟨Ho, BS5⟩
  iapply (wp_back_b m K c 6 (by decide)) $$ He BS6 Ho; iintro ⟨Ho, BS6⟩
  iapply (wp_back_b m K c 1 (by decide)) $$ He BS1 Ho; iintro ⟨Ho, BS1⟩
  iapply (wp_back_b m K c 2 (by decide)) $$ He BS2 Ho; iintro ⟨Ho, BS2⟩
  iapply (wp_done c _)
  iapply Hk
  isplitl [BS3]; · iexact BS3
  isplitl [Ho]; · iexact Ho
  isplitl [BS5]; · iexact BS5
  isplitl [BS6]; · iexact BS6
  isplitl [BS1]; · iexact BS1
  iexact BS2

end Cert.KernelIdealProof

end
-- ==== Proof.KernelIdealBody.lean ====
/-
The kernel's body at a symbolic device, whole.
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 49 → ℕ)

/-- What the body takes: every fetch's window, share, duty and position; the signals and the copies' duties and
positions; the accumulators and the result's staging buffer, whatever they hold; and all it owes. -/
def bodyPre (c : Dev nD) : sProp 𝕄 := iprop(fetX m c 0 ∗ fetY m c 0 ∗ fetX m c 1 ∗ fetY m c 1 ∗ fetX m c 2 ∗ fetY m c 2 ∗ fetX m c 3 ∗ fetY m c 3 ∗ fetX m c 4 ∗ fetY m c 4 ∗ fetX m c 5 ∗ fetY m c 5 ∗ fetX m c 6 ∗ fetY m c 6 ∗ fetX m c 7 ∗ fetY m c 7 ∗ sigPre c 7 ∗ sndA c 7 ∗ rcvA c 7 ∗ sndB c 7 ∗ rcvB c 7 ∗ sigPre c 3 ∗ sndA c 3 ∗ rcvA c 3 ∗ sndB c 3 ∗ rcvB c 3 ∗ sigPre c 5 ∗ sndA c 5 ∗ rcvA c 5 ∗ sndB c 5 ∗ rcvB c 5 ∗ sigPre c 6 ∗ sndA c 6 ∗ rcvA c 6 ∗ sndB c 6 ∗ rcvB c 6 ∗ sigPre c 1 ∗ sndA c 1 ∗ rcvA c 1 ∗ sndB c 1 ∗ rcvB c 1 ∗ sigPre c 2 ∗ sndA c 2 ∗ rcvA c 2 ∗ sndB c 2 ∗ rcvB c 2 ∗ sigPre c 4 ∗ sndA c 4 ∗ rcvA c 4 ∗ sndB c 4 ∗ rcvB c 4 ∗ barPre c ∗ ow c (OS c order) ∗ (∃ f, aAcc c fullShare f) ∗ (∃ f, bAcc c fullShare f) ∗ (∃ f, oBuf c f))
/-- What it leaves: every cell closed, the windows and slots at what landed in them, the accumulators at what was sent,
and the result stored. -/
def bodyPost (c : Dev nD) : sProp 𝕄 := iprop(hasX m c 0 ∗ hasY m c 0 ∗ hasX m c 1 ∗ hasY m c 1 ∗ hasX m c 2 ∗ hasY m c 2 ∗ hasX m c 3 ∗ hasY m c 3 ∗ hasX m c 4 ∗ hasY m c 4 ∗ hasX m c 5 ∗ hasY m c 5 ∗ hasX m c 6 ∗ hasY m c 6 ∗ hasX m c 7 ∗ hasY m c 7 ∗ bckA m c 7 ∗ gotA m c 7 ∗ bckB m c 7 ∗ gotB m c 7 ∗ bckA m c 3 ∗ gotA m c 3 ∗ bckB m c 3 ∗ gotB m c 3 ∗ bckA m c 5 ∗ gotA m c 5 ∗ bckB m c 5 ∗ gotB m c 5 ∗ bckA m c 6 ∗ gotA m c 6 ∗ bckB m c 6 ∗ gotB m c 6 ∗ bckA m c 1 ∗ gotA m c 1 ∗ bckB m c 1 ∗ gotB m c 1 ∗ bckA m c 2 ∗ gotA m c 2 ∗ bckB m c 2 ∗ gotB m c 2 ∗ bckA m c 4 ∗ gotA m c 4 ∗ bckB m c 4 ∗ gotB m c 4 ∗ semVal (barC c) 0 ∗ ow c (0) ∗ aAcc c (Transfers.shareDrop fullShare 8) (accA m c) ∗ bAcc c (Transfers.shareDrop fullShare 8) (accB m c) ∗ oBuf c (outAt m c) ∗ aAcc c (tokS 0) (accA m c) ∗ bAcc c (tokS 0) (accB m c))

/-- The body meets both. -/
theorem body (c : Dev nD) {Q : PUnit → sProp (MT nD τ sig Unit (Elt F) ℕ UU ℕ)} :
    env (F := F) m K ⊢ iprop(bodyPre m c -∗ (bodyPost m c -∗ Q ⟨⟩) -∗ WP c (cc0_body xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11) Q) := by
  rw [cc0_body_eq_skeleton]; unfold cc0_body_skel
  show _ ⊢ iprop(_ -∗ _ -∗ wp frame (wpE (defs₀ (F := F)) 𝒱₀ (c : Thread nD τ) none) Set.univ _ Q)
  simp only [wp_bind]
  unfold bodyPre bodyPost
  iintro #He ⟨X0, Y0, X1, Y1, X2, Y2, X3, Y3, X4, Y4, X5, Y5, X6, Y6, X7, Y7, S7, AS7, AR7, BS7, BR7, S3, AS3, AR3, BS3, BR3, S5, AS5, AR5, BS5, BR5, S6, AS6, AR6, BS6, BR6, S1, AS1, AR1, BS1, BR1, S2, AS2, AR2, BS2, BR2, S4, AS4, AR4, BS4, BR4, Bar, Ho, AA, BB, Out⟩ Hk
  iapply (part1 m K c) $$ He X0 Y0 X1; iintro %v2 %v5 %v8 %v11 ⟨X0, Y0, X1⟩
  iapply (part2 m K c _) $$ He Y1 X2 Y2 X3 Y3 X4; iintro  ⟨Y1, X2, Y2, X3, Y3, X4⟩
  iapply (part3 m K c _) $$ He Y4 X5 Y5 X6 Y6; iintro  ⟨Y4, X5, Y5, X6, Y6⟩
  iapply (part4 m K c _ _ _ _) $$ He X7 Y7; iintro %v94 %v97 %v100 %v103 %v106 %v109 %v112 %v115 %v116 %v0 ⟨X7, Y7⟩
  iapply (part5 m K c _ _ _ _ _) $$ He; iintro %v118 %v121 %v124 %v127 %v130 %v133 %v136 %v139 %v142 %v145 %v148 %v151 %v152 %v0
  iapply (part6 m K c _ _ _ _ _ _ _ _ _ _ _ _ _ _ _ _) $$ He S7 Ho S3 S5 S6; iintro %v154 %v183 %v0 Ho
  iapply (part7 m K c _ _ _ _ _ _ _ _ _) $$ He S1 Ho S2 S4 X0 Y0; iintro  ⟨Ho, X0, Y0⟩
  iapply (part8 m K c) $$ He X1 Ho Y1; iintro  ⟨X1, Ho, Y1⟩
  iapply (part9 m K c) $$ He X2 Ho Y2; iintro  ⟨X2, Ho, Y2⟩
  iapply (part10 m K c) $$ He X3 Ho Y3; iintro  ⟨X3, Ho, Y3⟩
  iapply (part11 m K c) $$ He X4 Ho Y4 X5; iintro  ⟨X4, Ho, Y4, X5⟩
  iapply (part12 m K c _) $$ He Y5 Ho X5 AA Bar; iintro %v390 %v0 ⟨Y5, Ho, X5, AA, Bar, AT0, AT1, AT2, AT3, AT4, AT5, AT6, AT7, PA1, PB1, PA2, PB2, PA3, PB3, PA4, PB4, PA5, PB5, PA6, PB6, PA7, PB7⟩
  iapply (part13 m K c _ _ _ _ _ _ _ _ _ _) $$ He AS7 AT7 PA7 Ho AS3 AT3 PA3 AS5 AT5 PA5; iintro  ⟨AS7, Ho, AS3, AS5⟩
  iapply (part14 m K c _ _ _ _ _ _ _ _ _) $$ He AS6 AT6 PA6 Ho AS1 AT1 PA1; iintro  ⟨AS6, Ho, AS1⟩
  iapply (part15 m K c _ _ _) $$ He AS2 AT2 PA2 Ho AS4 AT4 PA4 X6 Y6; iintro  ⟨AS2, Ho, AS4, X6, Y6⟩
  iapply (part16 m K c) $$ He X7 Ho Y7; iintro  ⟨X7, Ho, Y7⟩
  iapply (part17 m K c _ _ _ _ _ _) $$ He BB BS7 PB7 Ho; iintro  ⟨BB, BS7, Ho, BT0, BT1, BT2, BT3, BT4, BT5, BT6⟩
  iapply (part18 m K c _ _ _ _ _ _ _) $$ He BS3 BT3 PB3 Ho BS5 BT5 PB5 BS6 BT6 PB6; iintro %v591 %v0 ⟨BS3, Ho, BS5, BS6⟩
  iapply (part19 m K c _ _ _ _ _ _ _ _ _ _) $$ He BS1 BT1 PB1 Ho BS2 BT2 PB2 BS4 BT4 PB4; iintro  ⟨BS1, Ho, BS2, BS4⟩
  iapply (part20 m K c _ _ _ _ _ _) $$ He AA BB AR4 Ho AR2; iintro  ⟨AA, BB, AR4, Ho, AR2⟩
  iapply (part21 m K c _ _ _ _ _ _ _) $$ He AR1 Ho AR6; iintro %v687 ⟨AR1, Ho, AR6⟩
  iapply (part22 m K c _ _ _ _ _ _ _ _) $$ He AR5 Ho AR3; iintro %v718 %v0 ⟨AR5, Ho, AR3⟩
  iapply (part23 m K c _ _ _ _ _ _ _ _ _) $$ He AR7 Ho BR4; iintro  ⟨AR7, Ho, BR4⟩
  iapply (part24 m K c _ _ _ _ _ _) $$ He BR2 Ho BR1 BR6; iintro  ⟨BR2, Ho, BR1, BR6⟩
  iapply (part25 m K c _ _ _ _ _ _) $$ He BR6 BR5 Ho BR3; iintro  ⟨BR6, BR5, Ho, BR3⟩
  iapply (part26 m K c _ _ _) $$ He BR7 Ho Out AS7 AS3; iintro  ⟨BR7, Ho, Out, AS7, AS3⟩
  iapply (part27 m K c) $$ He AS5 Ho AS6 AS1 AS2 AS4 BS7; iintro  ⟨AS5, Ho, AS6, AS1, AS2, AS4, BS7⟩
  iapply (part28 m K c) $$ He BS3 Ho BS5 BS6 BS1 BS2; iintro  ⟨BS3, Ho, BS5, BS6, BS1, BS2⟩
  simp only [Prog.lift, Prog.pure_eq_ret]
  iapply (wp_back_b m K c 4 (by decide)) $$ He BS4 Ho; iintro ⟨Ho, BS4⟩
  iapply (wp_done c _)
  iapply (wp_done c _)
  iapply Hk
  isplitl [X0]; · iexact X0
  isplitl [Y0]; · iexact Y0
  isplitl [X1]; · iexact X1
  isplitl [Y1]; · iexact Y1
  isplitl [X2]; · iexact X2
  isplitl [Y2]; · iexact Y2
  isplitl [X3]; · iexact X3
  isplitl [Y3]; · iexact Y3
  isplitl [X4]; · iexact X4
  isplitl [Y4]; · iexact Y4
  isplitl [X5]; · iexact X5
  isplitl [Y5]; · iexact Y5
  isplitl [X6]; · iexact X6
  isplitl [Y6]; · iexact Y6
  isplitl [X7]; · iexact X7
  isplitl [Y7]; · iexact Y7
  isplitl [AS7]; · iexact AS7
  isplitl [AR7]; · iexact AR7
  isplitl [BS7]; · iexact BS7
  isplitl [BR7]; · iexact BR7
  isplitl [AS3]; · iexact AS3
  isplitl [AR3]; · iexact AR3
  isplitl [BS3]; · iexact BS3
  isplitl [BR3]; · iexact BR3
  isplitl [AS5]; · iexact AS5
  isplitl [AR5]; · iexact AR5
  isplitl [BS5]; · iexact BS5
  isplitl [BR5]; · iexact BR5
  isplitl [AS6]; · iexact AS6
  isplitl [AR6]; · iexact AR6
  isplitl [BS6]; · iexact BS6
  isplitl [BR6]; · iexact BR6
  isplitl [AS1]; · iexact AS1
  isplitl [AR1]; · iexact AR1
  isplitl [BS1]; · iexact BS1
  isplitl [BR1]; · iexact BR1
  isplitl [AS2]; · iexact AS2
  isplitl [AR2]; · iexact AR2
  isplitl [BS2]; · iexact BS2
  isplitl [BR2]; · iexact BR2
  isplitl [AS4]; · iexact AS4
  isplitl [AR4]; · iexact AR4
  isplitl [BS4]; · iexact BS4
  isplitl [BR4]; · iexact BR4
  isplitl [Bar]; · iexact Bar
  isplitl [Ho]; · iexact Ho
  isplitl [AA]; · iexact AA
  isplitl [BB]; · iexact BB
  isplitl [Out]; · iexact Out
  isplitl [AT0]; · iexact AT0
  iexact BT0

end Cert.KernelIdealProof

end
-- ==== Proof.KernelIdealLaunch.lean ====
/-
The launch's ghost state: the cells and their duties dealt to the devices, the credits each device starts with, and
the scratch buffers split into windows and slots and joined again.
-/
module

public import proofs.«01_k».proof.Proof.KernelIdealBody
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, array by array -/

/-- The number of the DMA semaphore at place `k` of array `a` (counted from 0). -/
def cix (p : Fin 8 × Fin 6) : Fin 49 := ⟨8 * p.2.val + p.1.val + 1, by have := p.1.isLt; have := p.2.isLt; omega⟩
/-- Different cells have different numbers, -/
theorem cix_injective : Function.Injective cix := by
  rintro ⟨k, a⟩ ⟨k', a'⟩ h
  have h' : 8 * a.val + k.val + 1 = 8 * a'.val + k'.val + 1 := congrArg Fin.val h
  have := k.isLt; have := k'.isLt
  have hk : k = k' := Fin.ext (by omega)
  have ha : a = a' := Fin.ext (by omega)
  rw [hk, ha]
def cixE : Fin 8 × Fin 6 ↪ Fin 49 := ⟨cix, cix_injective⟩
/-- and none of them is the barrier's. -/
theorem cix_ne (p : Fin 8 × Fin 6) : cix p ≠ 0 := fun h => Nat.succ_ne_zero _ (congrArg Fin.val h)
/-- The barrier's number and those of the arrays are all. -/
theorem cix_univ : (Finset.univ : Finset (Fin 49)) = insert 0 (Finset.univ.map cixE) := by
  refine (Finset.eq_univ_iff_forall.mpr fun i => ?_).symm
  by_cases hi : i = 0
  · exact Finset.mem_insert.mpr (Or.inl hi)
  · refine Finset.mem_insert.mpr (Or.inr (Finset.mem_map.mpr ⟨(⟨(i.val - 1) % 8, Nat.mod_lt _ (by decide)⟩, ⟨(i.val - 1) / 8, by have := i.isLt; omega⟩), Finset.mem_univ _, Fin.ext ?_⟩))
    have : i.val ≠ 0 := fun h => hi (Fin.ext h)
    show 8 * ((i.val - 1) / 8) + (i.val - 1) % 8 + 1 = i.val
    omega

/-- The numbers of the cells of the `x` fetches, -/
theorem cix_x (k : Fin 8) : semAt cc0_scratch6 k = (cix (k, 0) : DmaSem sig) := by revert k; decide
/-- of the `dy` fetches, -/
theorem cix_y (k : Fin 8) : semAt cc0_scratch7 k = (cix (k, 1) : DmaSem sig) := by revert k; decide
/-- of the first accumulator's sends, -/
theorem cix_sA (k : Fin 8) : semAt cc0_scratch8 k = (cix (k, 2) : DmaSem sig) := by revert k; decide
/-- of its arrivals, -/
theorem cix_rA (k : Fin 8) : semAt cc0_scratch9 k = (cix (k, 3) : DmaSem sig) := by revert k; decide
/-- of the second accumulator's sends -/
theorem cix_sB (k : Fin 8) : semAt cc0_scratch10 k = (cix (k, 4) : DmaSem sig) := by revert k; decide
/-- and of its arrivals. -/
theorem cix_rB (k : Fin 8) : semAt cc0_scratch11 k = (cix (k, 5) : DmaSem sig) := by revert k; decide

/-- The kernel's own semaphores. -/
def osem (p : Fin 8 × Fin 6) : SemLoc sig := .dma (cix p)

/-- Number 0 is the barrier semaphore, -/
theorem csem_zero : csem 0 = .reg barS := if_pos rfl
/-- and the other numbers are the kernel's own semaphores. -/
theorem csem_cix (p : Fin 8 × Fin 6) : csem (cix p) = osem p := if_neg (cix_ne p)

/-- The kernel's own semaphores are its six arrays, each named once. -/
theorem ownSemFacts : Pipeline.OwnSemFacts cfg0.spec osem where
  isScoped p := by revert p; decide
  inj p p' h := by
    have : (cix p : DmaSem sig) = cix p' := by unfold osem at h; injection h
    exact cix_injective this
  disj p w s h := by
    have h1 : (cix p : DmaSem sig) = (cfg0.spec w).sem s := by unfold osem at h; injection h
    have h2 : ((cfg0.spec w).sem s : DmaSem sig) = (0 : Fin 49) := by
      fin_cases w; fin_cases s; rfl
    exact cix_ne p (h1.trans h2)

/-- Different devices and numbers are different cells. -/
theorem kcell_injective : Function.Injective (kcell : Dev nD × Fin 49 → GSem nD τ sig) := by
  rintro ⟨c, i⟩ ⟨c', i'⟩ h
  have h1 : c = c' := congrArg (fun g : GSem nD τ sig => g.1.1) h
  subst h1
  have h2 : csem i = csem i' := congrArg Prod.snd h
  have h3 : i = i' := by
    unfold csem at h2
    by_cases hi : i = 0
    · rw [if_pos hi] at h2
      by_cases hi' : i' = 0
      · rw [hi, hi']
      · rw [if_neg hi'] at h2; exact absurd h2 (fun h => nomatch h)
    · rw [if_neg hi] at h2
      by_cases hi' : i' = 0
      · rw [if_pos hi'] at h2; exact absurd h2 (fun h => nomatch h)
      · rw [if_neg hi'] at h2; injection h2
  rw [h3]

/-- A thing for each of the six cells at place `k`. -/
def six (Φ : GSem nD τ sig → sProp (MT nD τ sig Unit (Elt F) ℕ UU ℕ)) (c : Dev nD) (k : Fin 8) : sProp 𝕄 :=
  iprop(Φ (xC c k) ∗ Φ (yC c k) ∗ Φ (sAC c k) ∗ Φ (rAC c k) ∗ Φ (sBC c k) ∗ Φ (rBC c k))

/-- The six arrays at one place, written out. -/
theorem bigSep_six (Φ : GSem nD τ sig → sProp (MT nD τ sig Unit (Elt F) ℕ UU ℕ)) (c : Dev nD) (k : Fin 8) :
    bigSep Finset.univ (fun a : Fin 6 => Φ ((c : Thread nD τ), osem (k, a))) = six Φ c k := by
  rw [bigSep_univ_eq_bigSepL [0, 1, 2, 3, 4, 5] (by decide) (by decide)]
  unfold six xC yC sAC rAC sBC rBC cellAt
  rw [cix_x, cix_y, cix_sA, cix_rA, cix_sB, cix_rB]
  rfl

/-- A thing for each of the kernel's own cells of a device; -/
theorem bigSep_own (Φ : GSem nD τ sig → sProp (MT nD τ sig Unit (Elt F) ℕ UU ℕ)) (c : Dev nD) :
    bigSep Finset.univ (fun p : Fin 8 × Fin 6 => Φ ((c : Thread nD τ), osem p)) = bigSep Finset.univ (fun k : Fin 8 => six Φ c k) := by
  rw [bigSep_univ_prod]
  exact bigSep_congr fun k _ => bigSep_six Φ c k
/-- and for the barrier too. -/
theorem bigSep_cells (Φ : GSem nD τ sig → sProp (MT nD τ sig Unit (Elt F) ℕ UU ℕ)) (c : Dev nD) :
    bigSep Finset.univ (fun i : Fin 49 => Φ (kcell (c, i))) = iprop(Φ (barC c) ∗ bigSep Finset.univ (fun k : Fin 8 => six Φ c k)) := by
  rw [cix_univ, bigSep_insert (by
    intro h; obtain ⟨p, -, hp⟩ := Finset.mem_map.mp h; exact cix_ne p hp), bigSep_map, ← bigSep_own]
  refine congrArg₂ _ ?_ (bigSep_congr fun p _ => ?_)
  · show Φ ((c : Thread nD τ), csem 0) = _
    rw [csem_zero]
  · show Φ ((c : Thread nD τ), csem (cix p)) = _
    rw [csem_cix]

/-! ## The launch element -/

def ringCells : Finset (GSem nD τ sig) := Finset.univ.map ⟨kcell, kcell_injective⟩

/-- The duty tokens minted for a device's own cells: at place `k`, the barrier's duty `k` and the six arrays' duty 0. -/
def tokOf (x : Dev nD × Fin 8 × Option (Fin 6)) : GSem nD τ sig × ℕ × Fin 8 :=
  match x with
  | (c, k, none) => (kcell (c, 0), 0, k)
  | (c, k, some a) => (kcell (c, cix (k, a)), 0, 0)
/-- No duty's token is minted twice. -/
theorem tokOf_injective : Function.Injective tokOf := by
  rintro ⟨c, k, o⟩ ⟨c', k', o'⟩ h
  have h0 : (tokOf (c, k, o)).1 = (tokOf (c', k', o')).1 := congrArg Prod.fst h
  have h2 : (tokOf (c, k, o)).2.2 = (tokOf (c', k', o')).2.2 := congrArg (fun x => x.2.2) h
  cases o with
  | none =>
    cases o' with
    | none =>
      have h1 := kcell_injective (show kcell (c, 0) = kcell (c', 0) from h0)
      have h3 : k = k' := h2
      have h4 : c = c' := congrArg Prod.fst h1
      rw [h3, h4]
    | some a' =>
      have h1 := kcell_injective (show kcell (c, 0) = kcell (c', cix (k', a')) from h0)
      exact absurd (congrArg Prod.snd h1).symm (cix_ne _)
  | some a =>
    cases o' with
    | none =>
      have h1 := kcell_injective (show kcell (c, cix (k, a)) = kcell (c', 0) from h0)
      exact absurd (congrArg Prod.snd h1) (cix_ne _)
    | some a' =>
      have h1 := kcell_injective (show kcell (c, cix (k, a)) = kcell (c', cix (k', a')) from h0)
      have h4 : c = c' := congrArg Prod.fst h1
      have h5 : (k, a) = (k', a') := cix_injective (congrArg Prod.snd h1)
      obtain ⟨h6, h7⟩ := Prod.mk.inj h5
      rw [h4, h6, h7]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

abbrev dut (g : GSem nD τ sig) : sProp 𝕄 := dutyTok ER g 0 0
abbrev posn (g : GSem nD τ sig) : sProp 𝕄 := atPos ER g 0 ∅ 0

/-- The duty tokens of device `c`'s own cells. -/
def toks (c : Dev nD) : sProp 𝕄 := bigSep Finset.univ fun k : Fin 8 => iprop(dutyTok ER (barC c) 0 k ∗ six dut c k)

/-- The tokens a device's own cells' are minted as. -/
theorem toks_eq (c : Dev nD) :
    bigSep Finset.univ (fun y : Fin 8 × Option (Fin 6) => (dutyTok ER (tokOf (c, y)).1 (tokOf (c, y)).2.1 (tokOf (c, y)).2.2 : sProp 𝕄)) = toks c := by
  rw [bigSep_univ_prod]
  unfold toks
  refine bigSep_congr fun k _ => ?_
  rw [bigSep_univ_eq_bigSepL [none, some 0, some 1, some 2, some 3, some 4, some 5] (by decide) (by decide)]
  rw [← bigSep_six, bigSep_univ_eq_bigSepL [0, 1, 2, 3, 4, 5] (by decide) (by decide)]
  simp only [← csem_cix, ← csem_zero]
  rfl

/-- What the launch element deals device `c`. -/
def G (c : Dev nD) : sProp 𝕄 :=
  iprop((bigSep Finset.univ fun i : Fin 49 => roundState ER (sched (F := F) m) (kcell (c, i)) 0)
    ∗ (bigSep Finset.univ fun i : Fin 49 => iprop(atPos ER (kcell (c, i)) 0 ∅ 0 ∗ reached ER (kcell (c, i)) 0)) ∗ toks c)

/-- The launch element makes every cell's first round, the readers' positions and the duty tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 49 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl
/-- The own semaphores are the six arrays. -/
theorem ownSems0_eq (c : Dev nD) : (Pipeline.ownSems0 (Ix := Unit) (Name := ℕ) (U := UU) (Lvl := ℕ) (Val := Elt F) (τ := τ) osem c : sProp 𝕄)
    = bigSep Finset.univ (fun k : Fin 8 => six (fun g => semVal g 0) c k) := by
  unfold Pipeline.ownSems0
  exact bigSep_own (fun g => semVal g 0) c

/-- Each device's cells start at zero, so that their invariants can be set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ toks c) := by
  unfold G
  rw [ownSems0_eq, unscopedSems0_eq]
  iintro ⟨Hos, Hus, Hst, Hat, Htok⟩
  ihave Hv := (show iprop(semVal (barC c) 0 ∗ bigSep Finset.univ (fun k : Fin 8 => six (F := F) (fun g => semVal g 0) c k)) ⊢ _
    from Entails.of_eq (bigSep_cells (fun g => semVal g 0) c).symm) $$ [Hos Hus]
  · isplitl [Hus] <;> iassumption
  imod (show iprop((bigSep Finset.univ fun i : Fin 49 => semVal (kcell (c, i)) 0) ∗ bigSep Finset.univ fun i : Fin 49 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays at place `k`. -/
def payTok (c : Dev nD) (k : Fin 8) : sProp 𝕄 :=
  iprop(dutyTok ER (barC (peer c k)) 0 k ∗ dut (xC c k) ∗ dut (yC c k) ∗ dut (sAC c k) ∗ dut (rAC (peer c k) k) ∗ dut (sBC c k) ∗ dut (rBC (peer c k) k))

/-- What stays with device `c`: its positions and the tokens of the duties it pays. -/
def linear (c : Dev nD) : sProp 𝕄 :=
  iprop((posn (barC c) ∗ bigSep Finset.univ (fun k : Fin 8 => six posn c k)) ∗ bigSep Finset.univ (payTok c))

/-- What the global step makes of the launch element. -/
def G' (c : Dev nD) : sProp 𝕄 := iprop(∃ K, records m K ∗ linear c)

/-- Device and place, the device moved to its partner at that place. -/
def swap : Dev nD × Fin 8 ≃ Dev nD × Fin 8 :=
  ⟨fun x => (peer x.1 x.2, x.2), fun x => (peer x.1 x.2, x.2), fun x => Prod.ext (peer_peer _ _) rfl, fun x => Prod.ext (peer_peer _ _) rfl⟩

/-- What every device holds at every place, dealt to the partner at that place. -/
theorem around (Φ : Dev nD → Fin 8 → sProp (MT nD τ sig Unit (Elt F) ℕ UU ℕ)) :
    bigSep Finset.univ (fun c : Dev nD => bigSep Finset.univ fun k : Fin 8 => Φ c k)
      = bigSep Finset.univ (fun c : Dev nD => bigSep Finset.univ fun k : Fin 8 => Φ (peer c k) k) := by
  rw [← bigSep_univ_prod (fun x : Dev nD × Fin 8 => Φ x.1 x.2), bigSep_univ_equiv swap, bigSep_univ_prod]
  rfl

/-- The tokens dealt to the devices that pay with them. -/
theorem toks_around : (bigSep Finset.univ fun c : Dev nD => (toks c : sProp 𝕄)) ⊢ bigSep Finset.univ fun c : Dev nD => bigSep Finset.univ (payTok c) := by
  have h1 : (bigSep Finset.univ fun c : Dev nD => (toks c : sProp 𝕄)) = _ :=
    (by simp only [toks, six, bigSep_sep'] : _ = iprop((bigSep Finset.univ fun c : Dev nD => bigSep Finset.univ fun k : Fin 8 => dutyTok ER (barC c) 0 k)
      ∗ (bigSep Finset.univ fun c : Dev nD => bigSep Finset.univ fun k : Fin 8 => dut (xC c k))
      ∗ (bigSep Finset.univ fun c : Dev nD => bigSep Finset.univ fun k : Fin 8 => dut (yC c k))
      ∗ (bigSep Finset.univ fun c : Dev nD => bigSep Finset.univ fun k : Fin 8 => dut (sAC c k))
      ∗ (bigSep Finset.univ fun c : Dev nD => bigSep Finset.univ fun k : Fin 8 => dut (rAC c k))
      ∗ (bigSep Finset.univ fun c : Dev nD => bigSep Finset.univ fun k : Fin 8 => dut (sBC c k))
      ∗ (bigSep Finset.univ fun c : Dev nD => bigSep Finset.univ fun k : Fin 8 => dut (rBC c k))))
  rw [h1, around (fun c k => dutyTok ER (barC c) 0 k), around (fun c k => dut (rAC c k)), around (fun c k => dut (rBC c k))]
  refine Entails.of_eq ?_
  unfold payTok
  simp only [bigSep_sep']

/-- A lasting fact may be used for each member of a family. -/
theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The shared records and what stays with a device make its part. -/
theorem ghost_intro (K : Dev nD × Fin 49 → ℕ) (c : Dev nD) : iprop(records (F := F) m K ∗ linear c) ⊢ G' m c := by
  unfold G'
  iintro ⟨HR, HL⟩
  iexists K
  isplitl [HR] <;> iassumption

/-- After the set-up every device has the shared records and its own part. -/
theorem regroup :
    (bigSep Finset.univ fun c : Dev nD => iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 49 => iprop(∃ κ : ℕ, cellInv ER (sched m) κ (kcell ck))),
    bigSep_congr (s := Finset.univ) (fun (c : Dev nD) _ => bigSep_sep' Finset.univ (fun i : Fin 49 => (atPos ER (kcell (c, i)) 0 ∅ 0 : sProp 𝕄)) (fun i => reached ER (kcell (c, i)) 0)),
    bigSep_sep', ← bigSep_univ_prod (fun ck : Dev nD × Fin 49 => (reached ER (kcell ck) 0 : sProp 𝕄))]
  iintro ⟨HI, ⟨Hat, #HR⟩, Htok⟩
  ihave HK := (BI.bigSep_exists_pi Finset.univ (fun (ck : Dev nD × Fin 49) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : Fin 49 => (atPos ER (kcell (c, i)) 0 ∅ 0 : sProp 𝕄)) (fun c => bigSep Finset.univ (payTok c))).symm).trans
      (bigSep_mono fun c _ => show _ ⊢ linear c from Entails.of_eq (by unfold linear; rw [bigSep_cells posn c])))
    isplitl [Hat]; · iexact Hat
    iexact Htk

/-- The semaphores of every device at once become the cells' invariants, and the tokens go to those that pay with them. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- All a device owes at launch. -/
def O₀ (c : Dev nD) : CellTallies nD τ sig Unit := OS c order

/-- What a list of payments adds to one cell's account. -/
theorem fold_apply (N : ℕ) (f : Fin 8 → GSem nD τ sig) (O : CellTallies nD τ sig Unit) (g : GSem nD τ sig) (l : List (Fin 8)) :
    (l.foldr (fun s O => O + tallyAt (f s) () N) O) g () = O g () + (l.map fun s => if g = f s then N else 0).sum := by
  induction l with
  | nil => rfl
  | cons s l ih =>
    rw [List.foldr_cons, Pi.add_apply, Finsupp.add_apply, tallyAt_apply, ih, List.map_cons, List.sum_cons]
    simp only [and_true]
    omega

/-- A sum of zeros over a list. -/
theorem map_zero (l : List (Fin 8)) (f : Fin 8 → ℕ) (h : ∀ s, f s = 0) : (l.map f).sum = 0 := by
  induction l with
  | nil => rfl
  | cons s l ih => rw [List.map_cons, List.sum_cons, h, ih]

/-- Equal cells belong to the same device and the same semaphore. -/
theorem semAt_inj {a b : DmaSem sig} {c d : Dev nD} (h : (((c : Thread nD τ), SemLoc.dma a) : GSem nD τ sig) = ((d : Thread nD τ), .dma b)) : c = d ∧ a = b := by
  refine ⟨congrArg (fun g : GSem nD τ sig => g.1.1) h, ?_⟩
  have : (SemLoc.dma a : SemLoc sig) = .dma b := congrArg Prod.snd h
  injection this

/-- Barrier cells are equal if and only if their devices are, -/
theorem bar_iff (a b : Dev nD) : (barC a = barC b) ↔ a = b := ⟨fun h => congrArg (fun g : GSem nD τ sig => g.1.1) h, fun h => by rw [h]⟩
/-- the first exchange's arrival cells if and only if device and place are, -/
theorem rA_iff (a b : Dev nD) (s t : Fin 8) : (rAC a s = rAC b t) ↔ (a = b ∧ s = t) :=
  ⟨fun h => ⟨(semAt_inj h).1, by rw [← idx_rA s, ← idx_rA t]; exact congrArg idxOf (semAt_inj h).2⟩, fun h => by rw [h.1, h.2]⟩
/-- and so for the second. -/
theorem rB_iff (a b : Dev nD) (s t : Fin 8) : (rBC a s = rBC b t) ↔ (a = b ∧ s = t) :=
  ⟨fun h => ⟨(semAt_inj h).1, by rw [← idx_rB s, ← idx_rB t]; exact congrArg idxOf (semAt_inj h).2⟩, fun h => by rw [h.1, h.2]⟩
/-- An arrival cell of the first exchange is not the barrier's, -/
theorem rA_ne_bar (a b : Dev nD) (s : Fin 8) : rAC a s ≠ barC b := fun h => nomatch (congrArg Prod.snd h : (SemLoc.dma _ : SemLoc sig) = .reg _)
/-- nor is one of the second, -/
theorem rB_ne_bar (a b : Dev nD) (s : Fin 8) : rBC a s ≠ barC b := fun h => nomatch (congrArg Prod.snd h : (SemLoc.dma _ : SemLoc sig) = .reg _)
/-- nor are those of the two exchanges the same. -/
theorem rA_ne_rB (a b : Dev nD) (s t : Fin 8) : rAC a s ≠ rBC b t := fun h => by
  have h1 := congrArg arrOf (semAt_inj h).2
  rw [arr_rA, arr_rB] at h1
  exact absurd h1 (by decide)

/-- What a device owes one cell for the second exchange, -/
theorem OB_apply (d : Dev nD) (g : GSem nD τ sig) : OB d order g () = (order.map fun s => if g = rBC (peer d s) s then NA else 0).sum := by
  unfold OB; rw [fold_apply NA (fun s => rBC (peer d s) s)]
  show 0 + _ = _
  rw [Nat.zero_add]
/-- and for everything. -/
theorem O₀_apply (d : Dev nD) (g : GSem nD τ sig) : O₀ d g ()
    = (order.map fun s => if g = rBC (peer d s) s then NA else 0).sum + (order.map fun s => if g = rAC (peer d s) s then NA else 0).sum
      + (order.map fun s => if g = barC (peer d s) then 1 else 0).sum := by
  unfold O₀ OS; rw [fold_apply 1 (fun s => barC (peer d s))]
  unfold OA; rw [fold_apply NA (fun s => rAC (peer d s) s), OB_apply]

/-- All devices together owe a barrier cell seven units, -/
theorem owed_bar (c : Dev nD) : ∑ d : Dev nD, O₀ d (barC c) () = 7 := by
  have h (d : Dev nD) : O₀ d (barC c) () = (order.map fun s => if c = peer d s then 1 else 0).sum := by
    rw [O₀_apply, map_zero _ _ fun s => if_neg fun h => rB_ne_bar _ _ _ h.symm, map_zero _ _ fun s => if_neg fun h => rA_ne_bar _ _ _ h.symm]
    simp only [bar_iff, Nat.zero_add]
  rw [Finset.sum_congr rfl fun d _ => h d]
  clear h; revert c; decide

/-- (a device and a place other than 0 name one partner) -/
theorem count_one (c : Dev nD) (s : Fin 8) (hs : s ≠ 0) (N : ℕ) :
    ∑ d : Dev nD, (order.map fun t => if c = peer d t ∧ s = t then N else 0).sum = N := by
  have h1 : ∑ d : Dev nD, (order.map fun t => if c = peer d t ∧ s = t then 1 else 0).sum = 1 := by revert c s; decide
  have h2 (d : Dev nD) : (order.map fun t => if c = peer d t ∧ s = t then N else 0).sum = N * (order.map fun t => if c = peer d t ∧ s = t then 1 else 0).sum := by
    rw [← List.sum_map_mul_left]
    simp only [mul_ite, Nat.mul_one, Nat.mul_zero]
  rw [Finset.sum_congr rfl fun d _ => h2 d, ← Finset.mul_sum, h1, Nat.mul_one]

/-- an arrival cell of the first exchange one copy, -/
theorem owed_rA (c : Dev nD) (s : Fin 8) (hs : s ≠ 0) : ∑ d : Dev nD, O₀ d (rAC c s) () = NA := by
  have h (d : Dev nD) : O₀ d (rAC c s) () = (order.map fun t => if c = peer d t ∧ s = t then NA else 0).sum := by
    rw [O₀_apply, map_zero _ _ fun t => if_neg (rA_ne_rB _ _ _ _), map_zero (l := order) (f := fun t => if rAC c s = barC (peer d t) then 1 else 0) fun t => if_neg (rA_ne_bar _ _ _)]
    simp only [rA_iff, Nat.zero_add, Nat.add_zero]
  rw [Finset.sum_congr rfl fun d _ => h d, count_one c s hs]
/-- and one of the second one copy too. -/
theorem owed_rB (c : Dev nD) (s : Fin 8) (hs : s ≠ 0) : ∑ d : Dev nD, O₀ d (rBC c s) () = NA := by
  have h (d : Dev nD) : O₀ d (rBC c s) () = (order.map fun t => if c = peer d t ∧ s = t then NA else 0).sum := by
    rw [O₀_apply, map_zero (f := fun t => if rBC c s = rAC (peer d t) t then NA else 0) _ fun t => if_neg fun h => rA_ne_rB _ _ _ _ h.symm,
      map_zero (l := order) (f := fun t => if rBC c s = barC (peer d t) then 1 else 0) fun t => if_neg (rB_ne_bar _ _ _)]
    simp only [rB_iff, Nat.add_zero]
  rw [Finset.sum_congr rfl fun d _ => h d, count_one c s hs]

/-- So much credit on a cell comes with the launch. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credits the body waits with: the barrier's seven units and, of each partner, its two copies. -/
def credits (c : Dev nD) : sProp 𝕄 :=
  iprop(cred (tallyAt (barC c) () 7) ∗ bigSep Finset.univ fun s : Fin 7 => iprop(cred (tallyAt (rAC c s.succ) () NA) ∗ cred (tallyAt (rBC c s.succ) () NA)))

/-- The receive semaphores of the seven partners. -/
def rcvOf (x : Fin 7 × Fin 2) : SemLoc sig := osem (x.1.succ, if x.2 = 0 then 3 else 5)
/-- The fourteen arrival semaphores differ. -/
theorem rcvOf_injective : Function.Injective rcvOf := by
  rintro ⟨s, j⟩ ⟨s', j'⟩ h
  have h1 := cix_injective (show cix (s.succ, if j = 0 then 3 else 5) = cix (s'.succ, if j' = 0 then 3 else 5) by unfold rcvOf osem at h; injection h)
  obtain ⟨h2, h3⟩ := Prod.mk.inj h1
  have h4 : s = s' := Fin.succ_injective _ h2
  have h5 : j = j' := (by decide : ∀ j j' : Fin 2, (if j = 0 then (3 : Fin 6) else 5) = (if j' = 0 then 3 else 5) → j = j') j j' h3
  rw [h4, h5]

/-- The launch's credit contains the credits that the body waits with. -/
theorem creds (c : Dev nD) : (Pipeline.launchCred O₀ c : sProp 𝕄) ⊢ credits c := by
  unfold Pipeline.launchCred credits
  rw [bigSep_univ_at _ (SemLoc.reg barS), launch_at _ _ (owed_bar c)]
  refine sep_mono_right ?_
  refine (bigSep_subset (t := Finset.univ.map ⟨rcvOf, rcvOf_injective⟩) ?_).trans ?_
  · intro x hx
    obtain ⟨y, -, rfl⟩ := Finset.mem_map.mp hx
    exact Finset.mem_erase.mpr ⟨(fun h => nomatch (h : (SemLoc.dma _ : SemLoc sig) = .reg _)), Finset.mem_univ _⟩
  · rw [bigSep_map, bigSep_univ_prod]
    refine bigSep_mono fun s _ => ?_
    rw [bigSep_univ_eq_bigSepL [0, 1] (by decide) (by decide)]
    have hA : (cred (tallyOn ((c : Thread nD τ), rcvOf (s, 0)) (launchCredit (Pipeline.owing O₀) 0 ((c : Thread nD τ), rcvOf (s, 0)))) : sProp 𝕄) = cred (tallyAt (rAC c s.succ) () NA) := by
      rw [← launch_at _ _ (owed_rA c s.succ (Fin.succ_ne_zero s))]
      unfold rAC cellAt; rw [cix_rA]; rfl
    have hB : (cred (tallyOn ((c : Thread nD τ), rcvOf (s, 1)) (launchCredit (Pipeline.owing O₀) 0 ((c : Thread nD τ), rcvOf (s, 1)))) : sProp 𝕄) = cred (tallyAt (rBC c s.succ) () NA) := by
      rw [← launch_at _ _ (owed_rB c s.succ (Fin.succ_ne_zero s))]
      unfold rBC cellAt; rw [cix_rB]; rfl
    rw [← hA, ← hB]
    exact BI.Entails.refl _

/-! ## The scratch buffers, piece by piece -/

/-- The chunks' windows do not overlap -/
theorem rW_disjoint (k k' : Fin 8) (h : k ≠ k') : Disjoint (rW k).set (rW k').set := by
  rw [Finset.disjoint_left]
  intro i hi hi'
  have h1 := (Rect.mem_set_unit.mp hi) 0
  have h2 := (Rect.mem_set_unit.mp hi') 0
  have h3 : 128 * k.val ≤ (i 0).val ∧ (i 0).val < 128 * k.val + 128 := h1
  have h4 : 128 * k'.val ≤ (i 0).val ∧ (i 0).val < 128 * k'.val + 128 := h2
  exact h (Fin.ext (by omega))
/-- and cover the buffer; -/
theorem rW_cover (i : S1024x2048.Idx) : ∃ k, i ∈ (rW k).set := by
  have h0 : (i 0).val < 1024 := (i 0).isLt
  have h1 : (i 1).val < 2048 := (i 1).isLt
  refine ⟨⟨(i 0).val / 128, by omega⟩, Rect.mem_set_unit.mpr fun a => ?_⟩
  match a with
  | ⟨0, _⟩ => exact ⟨show 128 * ((i 0).val / 128) ≤ (i 0).val by omega, show (i 0).val < 128 * ((i 0).val / 128) + 128 by omega⟩
  | ⟨1, _⟩ => exact ⟨Nat.zero_le _, show (i 1).val < 0 + 2048 by omega⟩
/-- neither do the slots, -/
theorem rS_disjoint (k k' : Fin 8) (h : k ≠ k') : Disjoint (rS k).set (rS k').set := by
  rw [Finset.disjoint_left]
  intro i hi hi'
  have h1 := (Rect.mem_set_unit.mp hi) 0
  have h2 := (Rect.mem_set_unit.mp hi') 0
  have h3 : k.val ≤ (i 0).val ∧ (i 0).val < k.val + 1 := h1
  have h4 : k'.val ≤ (i 0).val ∧ (i 0).val < k'.val + 1 := h2
  exact h (Fin.ext (by omega))
/-- which cover theirs. -/
theorem rS_cover (i : S8x2x2048.Idx) : ∃ k, i ∈ (rS k).set := by
  have h0 : (i 0).val < 8 := (i 0).isLt
  have h1 : (i 1).val < 2 := (i 1).isLt
  have h2 : (i 2).val < 2048 := (i 2).isLt
  refine ⟨⟨(i 0).val, h0⟩, Rect.mem_set_unit.mpr fun a => ?_⟩
  match a with
  | ⟨0, _⟩ => exact ⟨Nat.le_refl _, Nat.lt_succ_self _⟩
  | ⟨1, _⟩ => exact ⟨Nat.zero_le _, show (i 1).val < 0 + 2 by omega⟩
  | ⟨2, _⟩ => exact ⟨Nat.zero_le _, show (i 2).val < 0 + 2048 by omega⟩

/-- The window that a fetch of `x` fills, as a set of places, -/
theorem set_xDst (k : Fin 8) : (xDst k).view.set = (rW k).set := View.set_slice_whole cc0_scratch0 (rW k)
/-- that of a fetch of `dy`, -/
theorem set_yDst (k : Fin 8) : (yDst k).view.set = (rW k).set := View.set_slice_whole cc0_scratch1 (rW k)
/-- a slot of the first landing buffer -/
theorem set_slotA (k : Fin 8) : (slotA k).view.set = (rS k).set := (View.set_reshape _ _).trans (View.set_slice_whole cc0_scratch4 (rS k))
/-- and one of the second. -/
theorem set_slotB (k : Fin 8) : (slotB k).view.set = (rS k).set := (View.set_reshape _ _).trans (View.set_slice_whole cc0_scratch5 (rS k))

/-- A family that covers every place has the whole as its union. -/
theorem cover_of {S : Shape} (I : Fin 8 → Finset S.Idx) (h : ∀ i, ∃ k, i ∈ I k) : Finset.univ.biUnion I = Finset.univ :=
  Finset.eq_univ_iff_forall.mpr fun i => by
    obtain ⟨k, hk⟩ := h i
    exact Finset.mem_biUnion.mpr ⟨k, Finset.mem_univ _, hk⟩

/-- The buffer for `x` is its eight windows, -/
theorem split_x (c : Dev nD) : (iprop(∃ f : Buf (Elt F) ((c : Thread nD τ).loc cc0_scratch0), ((c : Thread nD τ).loc cc0_scratch0) ↦{fullShare} f) : sProp 𝕄)
    ⊢ bigSep Finset.univ fun k : Fin 8 => iprop(∃ f, xWin c k f) := by
  iintro ⟨%f, H⟩
  iapply ((Entails.of_eq (Ring.pointsTo_blocks (fun k : Fin 8 => (rW k).set) rW_disjoint (cover_of (S := S1024x2048) _ rW_cover) f)).trans
    (bigSep_mono fun k _ => show _ ⊢ iprop(∃ f, xWin c k f) from by
      unfold xWin; rw [set_xDst]; iintro H; iexists f; iexact H))
  iexact H
/-- that for `dy` likewise; -/
theorem split_y (c : Dev nD) : (iprop(∃ f : Buf (Elt F) ((c : Thread nD τ).loc cc0_scratch1), ((c : Thread nD τ).loc cc0_scratch1) ↦{fullShare} f) : sProp 𝕄)
    ⊢ bigSep Finset.univ fun k : Fin 8 => iprop(∃ f, yWin c k f) := by
  iintro ⟨%f, H⟩
  iapply ((Entails.of_eq (Ring.pointsTo_blocks (fun k : Fin 8 => (rW k).set) rW_disjoint (cover_of (S := S1024x2048) _ rW_cover) f)).trans
    (bigSep_mono fun k _ => show _ ⊢ iprop(∃ f, yWin c k f) from by
      unfold yWin; rw [set_yDst]; iintro H; iexists f; iexact H))
  iexact H
/-- the first landing buffer is its eight slots, -/
theorem split_a (c : Dev nD) : (iprop(∃ f : Buf (Elt F) ((c : Thread nD τ).loc cc0_scratch4), ((c : Thread nD τ).loc cc0_scratch4) ↦{fullShare} f) : sProp 𝕄)
    ⊢ bigSep Finset.univ fun k : Fin 8 => iprop(∃ f, aSlot c k f) := by
  iintro ⟨%f, H⟩
  iapply ((Entails.of_eq (Ring.pointsTo_blocks (fun k : Fin 8 => (rS k).set) rS_disjoint (cover_of (S := S8x2x2048) _ rS_cover) f)).trans
    (bigSep_mono fun k _ => show _ ⊢ iprop(∃ f, aSlot c k f) from by
      unfold aSlot; rw [set_slotA]; iintro H; iexists f; iexact H))
  iexact H
/-- the second likewise. -/
theorem split_b (c : Dev nD) : (iprop(∃ f : Buf (Elt F) ((c : Thread nD τ).loc cc0_scratch5), ((c : Thread nD τ).loc cc0_scratch5) ↦{fullShare} f) : sProp 𝕄)
    ⊢ bigSep Finset.univ fun k : Fin 8 => iprop(∃ f, bSlot c k f) := by
  iintro ⟨%f, H⟩
  iapply ((Entails.of_eq (Ring.pointsTo_blocks (fun k : Fin 8 => (rS k).set) rS_disjoint (cover_of (S := S8x2x2048) _ rS_cover) f)).trans
    (bigSep_mono fun k _ => show _ ⊢ iprop(∃ f, bSlot c k f) from by
      unfold bSlot; rw [set_slotB]; iintro H; iexists f; iexact H))
  iexact H

/-- The windows for `x` make the whole buffer again, -/
theorem join_x (c : Dev nD) : (bigSep Finset.univ fun k : Fin 8 => iprop(∃ f, xWin (F := F) c k f))
    ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (Val := Elt F) (ℓ := (c : Thread nD τ).loc cc0_scratch0) (q := fullShare)
    (fun k : Fin 8 => (rW k).set) rW_disjoint (cover_of (S := S1024x2048) _ rW_cover) (fun _ => Classical.arbitrary _)
  have hk (k : Fin 8) : (iprop(∃ f, xWin (F := F) c k f) : sProp 𝕄)
      ⊢ iprop(∃ f : Buf (Elt F) ((c : Thread nD τ).loc cc0_scratch0), ((c : Thread nD τ).loc cc0_scratch0) ↦[(rW k).set]{fullShare} f) := by
    unfold xWin; rw [set_xDst]
  exact BI.Entails.trans (bigSep_mono fun k _ => hk k) h
/-- those for `dy` too, -/
theorem join_y (c : Dev nD) : (bigSep Finset.univ fun k : Fin 8 => iprop(∃ f, yWin (F := F) c k f))
    ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Name := ℕ) (U := UU) (Lvl := ℕ) (Val := Elt F) (ℓ := (c : Thread nD τ).loc cc0_scratch1) (q := fullShare)
    (fun k : Fin 8 => (rW k).set) rW_disjoint (cover_of (S := S1024x2048) _ rW_cover) (fun _ => Classical.arbitrary _)
  have hk (k : Fin 8) : (iprop(∃ f, yWin (F := F) c k f) : sProp 𝕄)
      ⊢ iprop(∃ f : Buf (Elt F) ((c : Thread nD τ).loc cc0_scratch1), ((c : Thread nD τ).loc cc0_scratch1) ↦[(rW k).set]{fullShare} f) := by
    unfold yWin; rw [set_yDst]
  exact BI.Entails.trans (bigSep_mono fun k _ => hk k) h
/-- the slots of the first landing buffer too -/
theorem join_a (c : Dev nD) : (bigSep Finset.univ fun k : Fin 8 => iprop(∃ f, aSlot (F := F) c k f))
    ⊢ (iprop(∃ f : Buf (Elt F) ((c : Thread nD τ).loc cc0_scratch4), ((c : Thread nD τ).loc cc0_scratch4) ↦{fullShare} f) : sProp 𝕄) := by
  have h := Ring.pointsTo_blocks_join_exists (Ix := Unit) (Name := ℕ) (U := UU) (Lvl := ℕ) (Val := Elt F) (ℓ := (c : Thread nD τ).loc cc0_scratch4) (q := fullShare)
    (fun k : Fin 8 => (rS k).set) rS_disjoint (cover_of (S := S8x2x2048) _ rS_cover) (fun _ => Classical.arbitrary _)
  have hk (k : Fin 8) : (iprop(∃ f, aSlot (F := F) c k f) : sProp 𝕄)
      ⊢ iprop(∃ f : Buf (Elt F) ((c : Thread nD τ).loc cc0_scratch4), ((c : Thread nD τ).loc cc0_scratch4) ↦[(rS k).set]{fullShare} f) := by
    unfold aSlot; rw [set_slotA]
  exact BI.Entails.trans (bigSep_mono fun k _ => hk k) h
/-- and those of the second. -/
theorem join_b (c : Dev nD) : (bigSep Finset.univ fun k : Fin 8 => iprop(∃ f, bSlot (F := F) c k f))
    ⊢ (iprop(∃ f : Buf (Elt F) ((c : Thread nD τ).loc cc0_scratch5), ((c : Thread nD τ).loc cc0_scratch5) ↦{fullShare} f) : sProp 𝕄) := by
  have h := Ring.pointsTo_blocks_join_exists (Ix := Unit) (Name := ℕ) (U := UU) (Lvl := ℕ) (Val := Elt F) (ℓ := (c : Thread nD τ).loc cc0_scratch5) (q := fullShare)
    (fun k : Fin 8 => (rS k).set) rS_disjoint (cover_of (S := S8x2x2048) _ rS_cover) (fun _ => Classical.arbitrary _)
  have hk (k : Fin 8) : (iprop(∃ f, bSlot (F := F) c k f) : sProp 𝕄)
      ⊢ iprop(∃ f : Buf (Elt F) ((c : Thread nD τ).loc cc0_scratch5), ((c : Thread nD τ).loc cc0_scratch5) ↦[(rS k).set]{fullShare} f) := by
    unfold bSlot; rw [set_slotB]
  exact BI.Entails.trans (bigSep_mono fun k _ => hk k) h

end Cert.KernelIdealProof

end
-- ==== Proof.KernelIdealRun.lean ====
/-
The run: the body obligation met from the launch's holdings, and what every final state holds.
-/
module

public import proofs.«01_k».proof.Proof.KernelIdealLaunch
public import Idealize.ShloMosaic.Lib.Quiescent
public import Idealize.ShloMosaic.Lib.Pipeline.Value
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over eight places, written out, -/
theorem bigSep_fin8 (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
/-- and one over the seven places after the first. -/
theorem bigSep_succ7 (Φ : Fin 8 → sProp (MT nD τ sig Unit (Elt F) ℕ UU ℕ)) :
    bigSep Finset.univ (fun s : Fin 7 => Φ s.succ) = iprop(Φ 1 ∗ Φ 2 ∗ Φ 3 ∗ Φ 4 ∗ Φ 5 ∗ Φ 6 ∗ Φ 7) := bigSep_univ_eq_bigSepL [0, 1, 2, 3, 4, 5, 6] (by decide) (by decide) _

/-! ## The kernel's holdings at its one point -/

/-- The shares of the two arguments the fetches read with. -/
def argTok (c : Dev nD) : sProp 𝕄 :=
  iprop((bigSep Finset.univ fun k : Fin 8 => ((c : Thread nD τ).loc main_arg0) ↦{tokS k} m ((c : Thread nD τ).loc main_arg0))
    ∗ bigSep Finset.univ fun k : Fin 8 => ((c : Thread nD τ).loc main_arg1) ↦{tokS k} m ((c : Thread nD τ).loc main_arg1))
/-- What bypasses the kernel: the rest of the two arguments and the third whole. -/
def keep (c : Dev nD) : sProp 𝕄 :=
  iprop((((c : Thread nD τ).loc main_arg0) ↦{Transfers.shareDrop fullShare 8} m ((c : Thread nD τ).loc main_arg0))
    ∗ (((c : Thread nD τ).loc main_arg1) ↦{Transfers.shareDrop fullShare 8} m ((c : Thread nD τ).loc main_arg1))
    ∗ (((c : Thread nD τ).loc main_arg2) ↦{fullShare} m ((c : Thread nD τ).loc main_arg2)))

/-- What the kernel on device `c` starts from, -/
def start (c : Dev nD) : sProp 𝕄 := iprop(G' m c ∗ credits c ∗ levAts L lv ∗ argTok m c)
/-- with its scratch buffers, -/
def Φ₀ (c : Dev nD) : sProp 𝕄 := iprop(start m c ∗ Pipeline.scopedRest cfg0.spec c)
/-- and what it leaves: every semaphore at zero and the scratch buffers whole again. -/
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Into the body and out of it -/

/-- The first accumulator's buffer as the body holds it, -/
theorem acc_a (c : Dev nD) : (iprop(∃ f : Buf (Elt F) ((c : Thread nD τ).loc cc0_scratch2), ((c : Thread nD τ).loc cc0_scratch2) ↦{fullShare} f) : sProp 𝕄)
    = iprop(∃ f, aAcc c fullShare f) := by
  unfold aAcc; rw [show accAM.view.set = Finset.univ from View.set_whole cc0_scratch2]; rfl
/-- the second's, -/
theorem acc_b (c : Dev nD) : (iprop(∃ f : Buf (Elt F) ((c : Thread nD τ).loc cc0_scratch3), ((c : Thread nD τ).loc cc0_scratch3) ↦{fullShare} f) : sProp 𝕄)
    = iprop(∃ f, bAcc c fullShare f) := by
  unfold bAcc; rw [show accBM.view.set = Finset.univ from View.set_whole cc0_scratch3]; rfl
/-- and the result's. -/
theorem o_eq (c : Dev nD) (f : Vec F S2x2048 .f32) : oBuf c f = (((c : Thread nD τ).loc cc0_stg0_0) ↦{fullShare} f : sProp 𝕄) := by
  unfold oBuf; rw [show oM.view.set = Finset.univ from View.set_whole cc0_stg0_0]

/-- The holdings sorted by what each step of the body takes. -/
theorem sort_pre (c : Dev nD) :
    iprop(linear c ∗ argTok m c ∗ Pipeline.scopedRest cfg0.spec c) ⊢ (iprop((bigSep Finset.univ fun k : Fin 8 => fetX m c k) ∗ (bigSep Finset.univ fun k : Fin 8 => fetY m c k)
      ∗ (bigSep Finset.univ fun k : Fin 8 => sigPre c k) ∗ (bigSep Finset.univ fun k : Fin 8 => sndA c k) ∗ (bigSep Finset.univ fun k : Fin 8 => sndB c k)
      ∗ (bigSep Finset.univ fun k : Fin 8 => posn (rAC c k)) ∗ (bigSep Finset.univ fun k : Fin 8 => posn (rBC c k)) ∗ posn (barC c)
      ∗ (∃ f, aAcc c fullShare f) ∗ (∃ f, bAcc c fullShare f)) : sProp 𝕄) := by
  rw [show (Pipeline.scopedRest cfg0.spec c : sProp 𝕄) = _ from scopedRest0_eq c, acc_a, acc_b]
  unfold linear argTok fetX fetY sigPre sndA sndB six payTok
  simp only [bigSep_sep']
  iintro ⟨⟨⟨Pb, Px, Py, PsA, PrA, PsB, PrB⟩, Tb, Tx, Ty, TsA, TrA, TsB, TrB⟩, ⟨A0, A1⟩, ⟨S0, S1, AA, BB, S4, S5⟩⟩
  ihave S0 := (split_x c) $$ S0
  ihave S1 := (split_y c) $$ S1
  ihave S4 := (split_a c) $$ S4
  ihave S5 := (split_b c) $$ S5
  isplitl [S0 A0 Tx Px]
  · isplitl [S0]; · iexact S0
    isplitl [A0]; · iexact A0
    isplitl [Tx]; · iexact Tx
    iexact Px
  isplitl [S1 A1 Ty Py]
  · isplitl [S1]; · iexact S1
    isplitl [A1]; · iexact A1
    isplitl [Ty]; · iexact Ty
    iexact Py
  isplitl [Tb S4 S5]
  · isplitl [Tb]; · iexact Tb
    isplitl [S4]; · iexact S4
    iexact S5
  isplitl [TsA TrA PsA]
  · isplitl [TsA]; · iexact TsA
    isplitl [TrA]; · iexact TrA
    iexact PsA
  isplitl [TsB TrB PsB]
  · isplitl [TsB]; · iexact TsB
    isplitl [TrB]; · iexact TrB
    iexact PsB
  isplitl [PrA]; · iexact PrA
  isplitl [PrB]; · iexact PrB
  isplitl [Pb]; · iexact Pb
  isplitl [AA] <;> iassumption

/-- What the body does not use: the cells and the slots at place 0. -/
def spare (c : Dev nD) : sProp 𝕄 :=
  iprop(posn (sAC c 0) ∗ posn (rAC c 0) ∗ posn (sBC c 0) ∗ posn (rBC c 0) ∗ (∃ f, aSlot c 0 f) ∗ ∃ f, bSlot c 0 f)

/-- What a core holds at its start is what the body needs, and what it does not use. -/
theorem to_body (c : Dev nD) :
    iprop(linear c ∗ credits c ∗ argTok m c ∗ Pipeline.scopedRest cfg0.spec c ∗ ow c (OS c order) ∗ ∃ f, oBuf c f) ⊢ iprop(bodyPre m c ∗ spare c) := by
  iintro ⟨HL, HC, HA, HS, Ho, Out⟩
  ihave H := (sort_pre m c) $$ [HL HA HS]
  · isplitl [HL]; · iexact HL
    isplitl [HA] <;> iassumption
  unfold credits
  rw [bigSep_succ7 (fun s => iprop(cred (tallyAt (rAC c s) () NA) ∗ cred (tallyAt (rBC c s) () NA))),
    bigSep_fin8 (fun k => fetX m c k), bigSep_fin8 (fun k => fetY m c k), bigSep_fin8 (fun k => sigPre c k), bigSep_fin8 (fun k => sndA c k), bigSep_fin8 (fun k => sndB c k),
    bigSep_fin8 (fun k => posn (rAC c k)), bigSep_fin8 (fun k => posn (rBC c k))]
  icases H with ⟨⟨X0, X1, X2, X3, X4, X5, X6, X7⟩, ⟨Y0, Y1, Y2, Y3, Y4, Y5, Y6, Y7⟩, ⟨S0, S1, S2, S3, S4, S5, S6, S7⟩, ⟨AS0, AS1, AS2, AS3, AS4, AS5, AS6, AS7⟩, ⟨BS0, BS1, BS2, BS3, BS4, BS5, BS6, BS7⟩, ⟨PA0, PA1, PA2, PA3, PA4, PA5, PA6, PA7⟩, ⟨PB0, PB1, PB2, PB3, PB4, PB5, PB6, PB7⟩, Pb, AA, BB⟩
  icases HC with ⟨Cb, ⟨CA1, CB1⟩, ⟨CA2, CB2⟩, ⟨CA3, CB3⟩, ⟨CA4, CB4⟩, ⟨CA5, CB5⟩, ⟨CA6, CB6⟩, ⟨CA7, CB7⟩⟩
  isplitr [S0 AS0 BS0 PA0 PB0]
  · unfold bodyPre barPre rcvA rcvB
    isplitl [X0]; · iexact X0
    isplitl [Y0]; · iexact Y0
    isplitl [X1]; · iexact X1
    isplitl [Y1]; · iexact Y1
    isplitl [X2]; · iexact X2
    isplitl [Y2]; · iexact Y2
    isplitl [X3]; · iexact X3
    isplitl [Y3]; · iexact Y3
    isplitl [X4]; · iexact X4
    isplitl [Y4]; · iexact Y4
    isplitl [X5]; · iexact X5
    isplitl [Y5]; · iexact Y5
    isplitl [X6]; · iexact X6
    isplitl [Y6]; · iexact Y6
    isplitl [X7]; · iexact X7
    isplitl [Y7]; · iexact Y7
    isplitl [S7]; · iexact S7
    isplitl [AS7]; · iexact AS7
    isplitl [CA7 PA7]
    · isplitl [CA7]; · iexact CA7
      iexact PA7
    isplitl [BS7]; · iexact BS7
    isplitl [CB7 PB7]
    · isplitl [CB7]; · iexact CB7
      iexact PB7
    isplitl [S3]; · iexact S3
    isplitl [AS3]; · iexact AS3
    isplitl [CA3 PA3]
    · isplitl [CA3]; · iexact CA3
      iexact PA3
    isplitl [BS3]; · iexact BS3
    isplitl [CB3 PB3]
    · isplitl [CB3]; · iexact CB3
      iexact PB3
    isplitl [S5]; · iexact S5
    isplitl [AS5]; · iexact AS5
    isplitl [CA5 PA5]
    · isplitl [CA5]; · iexact CA5
      iexact PA5
    isplitl [BS5]; · iexact BS5
    isplitl [CB5 PB5]
    · isplitl [CB5]; · iexact CB5
      iexact PB5
    isplitl [S6]; · iexact S6
    isplitl [AS6]; · iexact AS6
    isplitl [CA6 PA6]
    · isplitl [CA6]; · iexact CA6
      iexact PA6
    isplitl [BS6]; · iexact BS6
    isplitl [CB6 PB6]
    · isplitl [CB6]; · iexact CB6
      iexact PB6
    isplitl [S1]; · iexact S1
    isplitl [AS1]; · iexact AS1
    isplitl [CA1 PA1]
    · isplitl [CA1]; · iexact CA1
      iexact PA1
    isplitl [BS1]; · iexact BS1
    isplitl [CB1 PB1]
    · isplitl [CB1]; · iexact CB1
      iexact PB1
    isplitl [S2]; · iexact S2
    isplitl [AS2]; · iexact AS2
    isplitl [CA2 PA2]
    · isplitl [CA2]; · iexact CA2
      iexact PA2
    isplitl [BS2]; · iexact BS2
    isplitl [CB2 PB2]
    · isplitl [CB2]; · iexact CB2
      iexact PB2
    isplitl [S4]; · iexact S4
    isplitl [AS4]; · iexact AS4
    isplitl [CA4 PA4]
    · isplitl [CA4]; · iexact CA4
      iexact PA4
    isplitl [BS4]; · iexact BS4
    isplitl [CB4 PB4]
    · isplitl [CB4]; · iexact CB4
      iexact PB4
    isplitl [Cb Pb]
    · isplitl [Cb]; · iexact Cb
      iexact Pb
    isplitl [Ho]; · iexact Ho
    isplitl [AA]; · iexact AA
    isplitl [BB]; · iexact BB
    iexact Out
  · unfold spare sigPre sndA sndB
    icases S0 with ⟨-, SA, SB⟩
    icases AS0 with ⟨-, -, QA⟩
    icases BS0 with ⟨-, -, QB⟩
    isplitl [QA]; · iexact QA
    isplitl [PA0]; · iexact PA0
    isplitl [QB]; · iexact QB
    isplitl [PB0]; · iexact PB0
    isplitl [SA] <;> iassumption

/-- The four cells at place 0, closed, and their slots. -/
def spent (c : Dev nD) : sProp 𝕄 :=
  iprop(semVal (sAC c 0) 0 ∗ semVal (rAC c 0) 0 ∗ semVal (sBC c 0) 0 ∗ semVal (rBC c 0) 0 ∗ (∃ f, aSlot c 0 f) ∗ ∃ f, bSlot c 0 f)

/-- What the body leaves is what the launch asks for at the end. -/
theorem of_body (c : Dev nD) : iprop(bodyPost m c ∗ spent c) ⊢ iprop(Φ₁ c ∗ ow c 0 ∗ oBuf c (outAt m c)) := by
  unfold Φ₁
  rw [show (Pipeline.scopedRest cfg0.spec c : sProp 𝕄) = _ from scopedRest0_eq c, acc_a, acc_b, ownSems0_eq, unscopedSems0_eq, bigSep_fin8]
  unfold bodyPost spent six hasX hasY bckA gotA bckB gotB
  iintro ⟨⟨⟨zx0, wx0⟩, ⟨zy0, wy0⟩, ⟨zx1, wx1⟩, ⟨zy1, wy1⟩, ⟨zx2, wx2⟩, ⟨zy2, wy2⟩, ⟨zx3, wx3⟩, ⟨zy3, wy3⟩, ⟨zx4, wx4⟩, ⟨zy4, wy4⟩, ⟨zx5, wx5⟩, ⟨zy5, wy5⟩, ⟨zx6, wx6⟩, ⟨zy6, wy6⟩, ⟨zx7, wx7⟩, ⟨zy7, wy7⟩, ⟨zs7, ta7⟩, ⟨zr7, sa7⟩, ⟨zt7, tb7⟩, ⟨zu7, sb7⟩, ⟨zs3, ta3⟩, ⟨zr3, sa3⟩, ⟨zt3, tb3⟩, ⟨zu3, sb3⟩, ⟨zs5, ta5⟩, ⟨zr5, sa5⟩, ⟨zt5, tb5⟩, ⟨zu5, sb5⟩, ⟨zs6, ta6⟩, ⟨zr6, sa6⟩, ⟨zt6, tb6⟩, ⟨zu6, sb6⟩, ⟨zs1, ta1⟩, ⟨zr1, sa1⟩, ⟨zt1, tb1⟩, ⟨zu1, sb1⟩, ⟨zs2, ta2⟩, ⟨zr2, sa2⟩, ⟨zt2, tb2⟩, ⟨zu2, sb2⟩, ⟨zs4, ta4⟩, ⟨zr4, sa4⟩, ⟨zt4, tb4⟩, ⟨zu4, sb4⟩, Zb, Ho, ad, bd, Out, ta0, tb0⟩, ⟨zs0, zr0, zt0, zu0, sa0, sb0⟩⟩
  isplitr [Ho Out]
  · isplitl [Zb]; · iexact Zb
    isplitl [zx0 zy0 zs0 zr0 zt0 zu0 zx1 zy1 zs1 zr1 zt1 zu1 zx2 zy2 zs2 zr2 zt2 zu2 zx3 zy3 zs3 zr3 zt3 zu3 zx4 zy4 zs4 zr4 zt4 zu4 zx5 zy5 zs5 zr5 zt5 zu5 zx6 zy6 zs6 zr6 zt6 zu6 zx7 zy7 zs7 zr7 zt7 zu7]
    · isplitl [zx0 zy0 zs0 zr0 zt0 zu0]
      · isplitl [zx0]; · iexact zx0
        isplitl [zy0]; · iexact zy0
        isplitl [zs0]; · iexact zs0
        isplitl [zr0]; · iexact zr0
        isplitl [zt0]; · iexact zt0
        iexact zu0
      isplitl [zx1 zy1 zs1 zr1 zt1 zu1]
      · isplitl [zx1]; · iexact zx1
        isplitl [zy1]; · iexact zy1
        isplitl [zs1]; · iexact zs1
        isplitl [zr1]; · iexact zr1
        isplitl [zt1]; · iexact zt1
        iexact zu1
      isplitl [zx2 zy2 zs2 zr2 zt2 zu2]
      · isplitl [zx2]; · iexact zx2
        isplitl [zy2]; · iexact zy2
        isplitl [zs2]; · iexact zs2
        isplitl [zr2]; · iexact zr2
        isplitl [zt2]; · iexact zt2
        iexact zu2
      isplitl [zx3 zy3 zs3 zr3 zt3 zu3]
      · isplitl [zx3]; · iexact zx3
        isplitl [zy3]; · iexact zy3
        isplitl [zs3]; · iexact zs3
        isplitl [zr3]; · iexact zr3
        isplitl [zt3]; · iexact zt3
        iexact zu3
      isplitl [zx4 zy4 zs4 zr4 zt4 zu4]
      · isplitl [zx4]; · iexact zx4
        isplitl [zy4]; · iexact zy4
        isplitl [zs4]; · iexact zs4
        isplitl [zr4]; · iexact zr4
        isplitl [zt4]; · iexact zt4
        iexact zu4
      isplitl [zx5 zy5 zs5 zr5 zt5 zu5]
      · isplitl [zx5]; · iexact zx5
        isplitl [zy5]; · iexact zy5
        isplitl [zs5]; · iexact zs5
        isplitl [zr5]; · iexact zr5
        isplitl [zt5]; · iexact zt5
        iexact zu5
      isplitl [zx6 zy6 zs6 zr6 zt6 zu6]
      · isplitl [zx6]; · iexact zx6
        isplitl [zy6]; · iexact zy6
        isplitl [zs6]; · iexact zs6
        isplitl [zr6]; · iexact zr6
        isplitl [zt6]; · iexact zt6
        iexact zu6
      isplitl [zx7]; · iexact zx7
      isplitl [zy7]; · iexact zy7
      isplitl [zs7]; · iexact zs7
      isplitl [zr7]; · iexact zr7
      isplitl [zt7]; · iexact zt7
      iexact zu7
    isplitl [wx0 wx1 wx2 wx3 wx4 wx5 wx6 wx7]
    · iapply (join_x c); rw [bigSep_fin8]
      isplitl [wx0]; · iexists _; iexact wx0
      isplitl [wx1]; · iexists _; iexact wx1
      isplitl [wx2]; · iexists _; iexact wx2
      isplitl [wx3]; · iexists _; iexact wx3
      isplitl [wx4]; · iexists _; iexact wx4
      isplitl [wx5]; · iexists _; iexact wx5
      isplitl [wx6]; · iexists _; iexact wx6
      iexists _; iexact wx7
    isplitl [wy0 wy1 wy2 wy3 wy4 wy5 wy6 wy7]
    · iapply (join_y c); rw [bigSep_fin8]
      isplitl [wy0]; · iexists _; iexact wy0
      isplitl [wy1]; · iexists _; iexact wy1
      isplitl [wy2]; · iexists _; iexact wy2
      isplitl [wy3]; · iexists _; iexact wy3
      isplitl [wy4]; · iexists _; iexact wy4
      isplitl [wy5]; · iexists _; iexact wy5
      isplitl [wy6]; · iexists _; iexact wy6
      iexists _; iexact wy7
    isplitl [ad ta0 ta1 ta2 ta3 ta4 ta5 ta6 ta7]
    · iexists _; iapply (undeal_a c (accA m c))
      isplitl [ad]; · iexact ad
      isplitl [ta0]; · iexact ta0
      isplitl [ta1]; · iexact ta1
      isplitl [ta2]; · iexact ta2
      isplitl [ta3]; · iexact ta3
      isplitl [ta4]; · iexact ta4
      isplitl [ta5]; · iexact ta5
      isplitl [ta6]; · iexact ta6
      iexact ta7
    isplitl [bd tb0 tb1 tb2 tb3 tb4 tb5 tb6 tb7]
    · iexists _; iapply (undeal_b c (accB m c))
      isplitl [bd]; · iexact bd
      isplitl [tb0]; · iexact tb0
      isplitl [tb1]; · iexact tb1
      isplitl [tb2]; · iexact tb2
      isplitl [tb3]; · iexact tb3
      isplitl [tb4]; · iexact tb4
      isplitl [tb5]; · iexact tb5
      isplitl [tb6]; · iexact tb6
      iexact tb7
    isplitl [sa0 sa1 sa2 sa3 sa4 sa5 sa6 sa7]
    · iapply (join_a c); rw [bigSep_fin8]
      isplitl [sa0]; · iexact sa0
      isplitl [sa1]; · iexists _; iexact sa1
      isplitl [sa2]; · iexists _; iexact sa2
      isplitl [sa3]; · iexists _; iexact sa3
      isplitl [sa4]; · iexists _; iexact sa4
      isplitl [sa5]; · iexists _; iexact sa5
      isplitl [sa6]; · iexists _; iexact sa6
      iexists _; iexact sa7
    iapply (join_b c); rw [bigSep_fin8]
    isplitl [sb0]; · iexact sb0
    isplitl [sb1]; · iexists _; iexact sb1
    isplitl [sb2]; · iexists _; iexact sb2
    isplitl [sb3]; · iexists _; iexact sb3
    isplitl [sb4]; · iexists _; iexact sb4
    isplitl [sb5]; · iexists _; iexact sb5
    isplitl [sb6]; · iexists _; iexact sb6
    iexists _; iexact sb7
  · isplitl [Ho] <;> iassumption

/-- The cells at place 0 have no duty: they close at once. -/
theorem close_spare (K : Dev nD × Fin 49 → ℕ) (c : Dev nD) : iprop(env (F := F) m K ∗ spare c) ⊢ |={Set.univ}=> spent c := by
  unfold spare spent
  have hd (a : ℕ) (g : GSem nD τ sig) (q : DmaSem sig) (hg : g = ((c : Thread nD τ), .dma q)) (ha : arrOf q = a) (h3 : 3 ≤ a) (hk : idxOf q = 0) :
      ∀ r, 0 ≤ r → (sched (F := F) m).duties g r = ∅ := by
    intro r _
    subst hg
    cases r with
    | zero =>
      rw [duties_dma, ha, hk]
      unfold dmaDuties; rw [if_neg (by omega), if_pos ⟨h3, rfl⟩]
    | succ r => exact duties_later m _ _ (by omega)
  iintro ⟨#He, H1, H2, H3, H4, H5⟩
  imod (Rounds.cell_close ER (sched m) (Set.mem_univ (K (c, semAt cc0_scratch8 0))) (fun h => h) (R := 0) (hd 3 (sAC c 0) _ rfl (arr_sA 0) (by decide) (idx_sA 0))) $$ [H1] with H1
  · isplitr; · iapply (inv_dma m K c (semAt cc0_scratch8 0) (by rw [arr_sA]; decide)); iexact He
    iexact H1
  imod (Rounds.cell_close ER (sched m) (Set.mem_univ (K (c, semAt cc0_scratch9 0))) (fun h => h) (R := 0) (hd 4 (rAC c 0) _ rfl (arr_rA 0) (by decide) (idx_rA 0))) $$ [H2] with H2
  · isplitr; · iapply (inv_dma m K c (semAt cc0_scratch9 0) (by rw [arr_rA]; decide)); iexact He
    iexact H2
  imod (Rounds.cell_close ER (sched m) (Set.mem_univ (K (c, semAt cc0_scratch10 0))) (fun h => h) (R := 0) (hd 5 (sBC c 0) _ rfl (arr_sB 0) (by decide) (idx_sB 0))) $$ [H3] with H3
  · isplitr; · iapply (inv_dma m K c (semAt cc0_scratch10 0) (by rw [arr_sB]; decide)); iexact He
    iexact H3
  imod (Rounds.cell_close ER (sched m) (Set.mem_univ (K (c, semAt cc0_scratch11 0))) (fun h => h) (R := 0) (hd 6 (rBC c 0) _ rfl (arr_rB 0) (by decide) (idx_rB 0))) $$ [H4] with H4
  · isplitr; · iapply (inv_dma m K c (semAt cc0_scratch11 0) (by rw [arr_rB]; decide)); iexact He
    iexact H4
  imodintro
  isplitl [H1]; · iexact H1
  isplitl [H2]; · iexact H2
  isplitl [H3]; · iexact H3
  isplitl [H4]; · iexact H4
  iexact H5

/-- To own a whole buffer is to hold its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def holdPre (c : Dev nD) : sProp 𝕄 :=
  iprop(Φ₀ m c ∗ (dats m ρ 0 c).owesAt () t0_0.castSucc ∗ (∃ d, stg c cc0_stg0_0 ((dats m ρ 0 c).before (0 : Fin 1) t0_0 d)))
def holdPost (c : Dev nD) : sProp 𝕄 :=
  iprop(Φ₁ c ∗ (dats m ρ 0 c).owesAt () t0_0.succ ∗ stg c cc0_stg0_0 (outAt m c))

/-- There is one window. -/
theorem bigSep_W (Φ : Fin cfg0.W → sProp (MT nD τ sig Unit (Elt F) ℕ UU ℕ)) : bigSep Finset.univ Φ = Φ (0 : Fin 1) := bigSep_W0 Φ

/-- The kernel takes its holdings before its point to those after it. -/
theorem sound_body (c : Dev nD) : holdPre m ρ c ⊢ WP c (cc0_body xM (Memref.isWhole_whole _) yM (Memref.isWhole_whole _) oM (Memref.isWhole_whole _) xqM (Memref.isWhole_whole _) yqM (Memref.isWhole_whole _) accAM (Memref.isWhole_whole _) accBM (Memref.isWhole_whole _) bufAM (Memref.isWhole_whole _) bufBM (Memref.isWhole_whole _) cc0_scratch6 cc0_scratch7 cc0_scratch8 cc0_scratch9 cc0_scratch10 cc0_scratch11) (fun _ => holdPost m ρ c) := by
  unfold holdPre Φ₀ start G' Dat.owesAt Pipeline.owesWithin
  rw [show (dats m ρ 0 c).owed t0_0.castSucc = OS c order from rfl]
  iintro ⟨⟨⟨⟨%K, #HR, HL⟩, HC, #Hlev, HA⟩, HS⟩, ⟨%W, %hW, HO⟩, ⟨%d0, %g0, %hg0, Hout⟩⟩
  ihave #He := (show iprop(records m K ∗ levAts L lv) ⊢ env (F := F) m K from BI.Entails.refl _) $$ []
  · isplitr; · iexact HR
    iexact Hlev
  ihave H := (to_body m c) $$ [HL HC HA HS HO Hout]
  · isplitl [HL]; · iexact HL
    isplitl [HC]; · iexact HC
    isplitl [HA]; · iexact HA
    isplitl [HS]; · iexact HS
    isplitl [HO]
    · unfold ow; iexists W; iexact HO
    · iexists g0; rw [o_eq]; iexact Hout
  icases H with ⟨Hpre, Hsp⟩
  imod (close_spare m K c) $$ [Hsp] with Hsp
  · isplitr; · iexact He
    iexact Hsp
  iapply (body m K c) $$ He Hpre
  iintro Hpost
  ihave H := (of_body m c) $$ [Hpost Hsp]
  · isplitl [Hpost] <;> iassumption
  unfold holdPost Dat.owesAt Pipeline.owesWithin
  rw [show (dats m ρ 0 c).owed t0_0.succ = 0 from rfl, o_eq]
  unfold ow
  icases H with ⟨HΦ, ⟨%W', HO⟩, Hout⟩
  isplitl [HΦ]; · iexact HΦ
  isplitl [HO]
  · iexists W'
    isplitr; · ipureintro; exact fun _ _ => Or.inl trivial
    iexact HO
  iexists _; isplitr; · (ipureintro; rfl)
  iexact Hout

set_option maxRecDepth 40000 in
/-- The body's obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The side conditions of the launch -/

/-- It is held in full. -/
theorem share_eq (c : Dev nD) (w : Fin cfg0.W) : (dats m ρ 0 c).share w = fullShare := by unfold Dat.share; split <;> rfl

/-- The launch gives a core what its body starts from, and what it keeps meanwhile. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ keep m c) := by
  rw [Pipeline.unscopedRestP_none, unscopedRest0_eq]
  iintro ⟨⟨H0, H1, H2⟩, Hlev, Hcr, -, HG⟩
  ihave Hc := (creds (F := F) c) $$ Hcr
  ihave H0 := (Transfers.pointsTo_toks_split fullShare 8) $$ H0
  ihave H1 := (Transfers.pointsTo_toks_split fullShare 8) $$ H1
  icases H0 with ⟨D0, T0⟩
  icases H1 with ⟨D1, T1⟩
  imodintro
  unfold start keep argTok
  isplitl [HG Hc Hlev T0 T1]
  · isplitl [HG]; · iexact HG
    isplitl [Hc]; · iexact Hc
    isplitl [Hlev]; · iexact Hlev
    isplitl [T0]; · iexact T0
    iexact T1
  · isplitl [D0]; · iexact D0
    isplitl [D1]; · iexact D1
    iexact H2

/-- With the scratch buffers that is the state before the body's one point, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

/-- and the state after it gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  exact BI.Entails.refl _

/-- The result's staging semaphore lies below everything owed. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w; fin_cases s; rfl) _ (by
      rcases t with ⟨_ | _, ht⟩
      · exact Hi_OS c order
      · exact Hi_zero 0)

/-! ## The run -/

/-- The contents the result array ends with. -/
def finalA (c : Dev nD) (w : Fin cfg0.W) : Buf (Elt F) ((cfg0.win w).arr.view.loc (c : Thread nD τ)) := (dats m ρ 0 c).arrAt w cfg0.N

/-- What every final state holds on each device: the result array at those contents and the arguments unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- Holding any share of the arguments, the final memory is read. -/
theorem keep_read (c : Dev nD) (s' : Phys nD τ sig (Elt F)) :
    iprop(keep m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)
      ∧ s'.mem.mem ((c : Thread nD τ).loc main_arg2) = m ((c : Thread nD τ).loc main_arg2)⌝ ∗ SI s') : sProp 𝕄) := by
  unfold keep
  iintro ⟨⟨H0, H1, H2⟩, HSI⟩
  icombine HSI H0 gives %h0
  icombine HSI H1 gives %h1
  icombine HSI H2 gives %h2
  isplitr
  · ipureintro
    exact ⟨Buf.eq_of_forall_mem_univ h0, Buf.eq_of_forall_mem_univ h1, Buf.eq_of_forall_mem_univ h2⟩
  · iexact HSI

set_option maxRecDepth 8000 in
/-- From any memory with zero counters, every weakly fair execution of the eight devices terminates, and every final state
has each device's result array at the computed contents, the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := keep m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hY := fun c s' => by
      iintro ⟨Hu, HZ, HSI⟩
      ihave H := (keep_read m c s') $$ [HZ HSI]
      · isplitl [HZ] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · (ipureintro; exact ⟨h', h⟩)
      iexact HSI)
    (hQ := fun _ h hs => ⟨fun c => ⟨fun w => (h c).1 w, (h c).2.2.2⟩, sem_eq_zero hs fun c => (h c).2.2.1⟩)

/-! ## The result -/

/-- What the region's one point writes back is the result's one block. -/
theorem flushed_out (c : Dev nD) (t : Fin cfg0.N) :
    (dats m ρ 0 c).flushed 0 t = ((cfg0.win 0).blk t).view.read (Elt F) (outAt m c) := by
  obtain rfl := fin_N0 t
  have ha : (dats m ρ 0 c).after 0 t0_0 = outAt m c := by dsimp only [dats]
  unfold Pipeline.Dat.flushed
  rw [ha]
  funext j
  show outAt m c _ = outAt m c _
  refine congrArg (outAt m c) (funext fun a => Fin.ext ?_)
  match a with
  | ⟨0, _⟩ => show (j 0 : Nat) = 0 * 2 + 1 * (j 0 : Nat); omega
  | ⟨1, _⟩ => show (j 1 : Nat) = 0 * 2048 + 1 * (j 1 : Nat); omega

/-- An element is in the window's block when its row is one of the block's two. -/
theorem mem_out (t : Fin cfg0.N) (i : S2x2048.Idx) :
    i ∈ ((cfg0.win 0).blk t).view.set ↔ t.val * 2 ≤ (i 0 : Nat) ∧ (i 0 : Nat) < t.val * 2 + 2 := by
  show i ∈ ((View.whole main_v1).slice (win0_0.rect t)).set ↔ _
  rw [View.set_slice_whole, Rect.mem_set_unit]
  have h1 : (i 1 : Nat) < 2048 := (i 1).isLt
  have e : win0_0.index t 0 * win0_0.size 0 = t.val * 2 ∧ win0_0.xsize (grid0.coords t) 0 = 2
      ∧ win0_0.index t 1 * win0_0.size 1 = 0 ∧ win0_0.xsize (grid0.coords t) 1 = 2048 := by
    rcases fin_N0 t with rfl; decide +kernel
  refine ⟨fun h => ?_, fun h a => ?_⟩
  · have : win0_0.index t 0 * win0_0.size 0 ≤ (i 0 : Nat) ∧ (i 0 : Nat) < win0_0.index t 0 * win0_0.size 0 + win0_0.xsize (grid0.coords t) 0 := h 0
    rw [e.1, e.2.1] at this; exact this
  · match a with
    | ⟨0, _⟩ =>
      show win0_0.index t 0 * win0_0.size 0 ≤ (i 0 : Nat) ∧ (i 0 : Nat) < win0_0.index t 0 * win0_0.size 0 + win0_0.xsize (grid0.coords t) 0
      rw [e.1, e.2.1]; exact h
    | ⟨1, _⟩ =>
      show win0_0.index t 1 * win0_0.size 1 ≤ (i 1 : Nat) ∧ (i 1 : Nat) < win0_0.index t 1 * win0_0.size 1 + win0_0.xsize (grid0.coords t) 1
      rw [e.2.2.1, e.2.2.2]; omega

/-- The region's result array ends holding what the body computed. -/
theorem finalA_out (c : Dev nD) : finalA m ρ c 0 = outAt m c :=
  (dats m ρ 0 c).arrAt_eq_of_cover 0 (outAt m c) (fun t _ => flushed_out m ρ c t) fun i => by
    have h0 : (i 0 : Nat) < 2 := (i 0).isLt
    refine ⟨t0_0, flush0_0 _, ?_⟩
    rw [mem_out]
    show 0 * 2 ≤ (i 0 : Nat) ∧ (i 0 : Nat) < 0 * 2 + 2
    omega

/-- From any memory with zero counters, every weakly fair execution of the eight devices terminates, and every final state
has each device's result at its value, the arguments unchanged and every semaphore counter at zero. -/
theorem run_out : θ_run defs (onTc (τ := τ) (main (F := F))) ⟨m, fun _ => 0, ρ⟩ (fun r => (∀ c : Dev nD,
    r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨((h.1 c).1 0).trans (finalA_out m ρ c), (h.1 c).2⟩, h.2⟩) (run_main m ρ)

end Cert.KernelIdealProof

end
-- ==== Proof.Rows.lean ====
/- The mathematics of the two sums over the extended reals: one row's mean, variance and normalised entries, the reciprocal
square root of a positive number, and the splitting of a sum over the 8192 rows by device, chunk and row of a chunk. -/
module

public import Idealize.ShloMosaic.PureOps.Ideal.Laws
public import Idealize.ShloMosaic.Lib.IdealHost
public import Mathlib.Algebra.BigOperators.Fin

@[expose] public section

noncomputable section

namespace Cert.Rows

open Idealize.ShloMosaic
open scoped BigOperators

/-- The number of columns as a constant of the two programs, -/
def cols : EReal := Ideal.ofBits .f32 0x45000000#32
/-- and the number added to a variance. -/
def eps : EReal := Ideal.ofBits .f32 0x3727C5AC#32

/-- A row's mean, -/
def mean (u : Fin 2048 → EReal) : EReal := Ideal.div (∑ j, u j) cols
/-- its variance -/
def var (u : Fin 2048 → EReal) : EReal := Ideal.div (∑ j, (u j - mean u) * (u j - mean u)) cols
/-- and its normalised entries. -/
def hat (u : Fin 2048 → EReal) (j : Fin 2048) : EReal := (u j - mean u) * Ideal.rsqrt (var u + eps)

/-- The first constant is 2048, -/
theorem cols_eq : cols = ((2048 : ℝ) : EReal) := by
  unfold cols
  simp [Ideal.ofBits, Ideal.ieee, -EReal.coe_mul]; norm_num

/-- and the second is positive. -/
theorem eps_pos : 0 < eps := by
  unfold eps
  simp [Ideal.ofBits, Ideal.ieee, -EReal.coe_mul]

/-- A square is not negative, at the infinities too. -/
theorem sq_nonneg' (a : EReal) : 0 ≤ a * a := by
  rcases le_total 0 a with h | h
  · exact mul_nonneg h h
  · have := EReal.neg_nonneg.mpr h
    rw [← neg_mul_neg]
    exact mul_nonneg this this

/-- So a variance is not negative, -/
theorem var_nonneg (u : Fin 2048 → EReal) : 0 ≤ var u := by
  unfold var
  rw [cols_eq, Ideal.div_coe (by norm_num)]
  refine mul_nonneg (Finset.sum_nonneg fun j _ => sq_nonneg' _) ?_
  exact EReal.coe_nonneg.mpr (by norm_num)

/-- and what the square root is taken of is positive. -/
theorem var_eps_pos (u : Fin 2048 → EReal) : 0 < var u + eps :=
  lt_of_lt_of_le eps_pos (le_add_of_nonneg_left (var_nonneg u))

/-- One over the square root of a positive number is its reciprocal square root. -/
theorem one_div_sqrt {v : EReal} (h : 0 < v) : Ideal.div 1 (Ideal.sqrt v) = Ideal.rsqrt v := by
  induction v using EReal.rec with
  | bot => exact absurd h (by simp)
  | top => simp [Ideal.div]
  | coe r =>
    have hr : 0 < r := EReal.coe_pos.mp h
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs]
    simp

/-! ## The rows by device, chunk and row -/

/-- The row of the whole array that is row `r` of chunk `k` of device `d`: the devices' middle coordinate picks the half, the
outer one the quarter of it and the inner one the half of that. -/
def rowOf (d : Fin 8) (k : Fin 8) (r : Fin 128) : Fin 8192 :=
  ⟨4096 * (d.val / 2 % 2) + (2048 * (d.val / 4) + 1024 * (d.val % 2) + 128 * k.val + r.val), by omega⟩

/-- The device, -/
def devOf (R : Fin 8192) : Fin 8 := ⟨4 * (R.val / 2048 % 2) + 2 * (R.val / 4096) + R.val / 1024 % 2, by omega⟩
/-- the chunk -/
def chunkOf (R : Fin 8192) : Fin 8 := ⟨R.val / 128 % 8, by omega⟩
/-- and the row of the chunk of a row of the whole array. -/
def placeOf (R : Fin 8192) : Fin 128 := ⟨R.val % 128, by omega⟩

/-- The device of such a row, -/
theorem devOf_rowOf (d k : Fin 8) (r : Fin 128) : devOf (rowOf d k r) = d := by
  refine Fin.ext ?_
  have hk := k.isLt
  have hr := r.isLt
  unfold devOf rowOf
  dsimp only
  fin_cases d <;> dsimp only <;> omega

/-- its chunk -/
theorem chunkOf_rowOf (d k : Fin 8) (r : Fin 128) : chunkOf (rowOf d k r) = k := by
  refine Fin.ext ?_
  have hk := k.isLt
  have hr := r.isLt
  unfold chunkOf rowOf
  dsimp only
  omega

/-- and its place in the chunk are the ones it was made of, -/
theorem placeOf_rowOf (d k : Fin 8) (r : Fin 128) : placeOf (rowOf d k r) = r := by
  refine Fin.ext ?_
  have hr := r.isLt
  unfold placeOf rowOf
  dsimp only
  omega

/-- and every row is made of its own. -/
theorem rowOf_devOf (R : Fin 8192) : rowOf (devOf R) (chunkOf R) (placeOf R) = R := by
  refine Fin.ext ?_
  have hR := R.isLt
  unfold rowOf devOf chunkOf placeOf
  dsimp only
  have h2 : R.val / 2048 = R.val / 1024 / 2 := by omega
  have h4 : R.val / 4096 = R.val / 1024 / 4 := by omega
  have h8 : R.val / 128 % 8 * 128 + R.val % 128 + R.val / 1024 * 1024 = R.val := by omega
  rw [h2, h4]
  have hq : R.val / 1024 < 8 := by omega
  generalize R.val / 1024 = q at hq h8 ⊢
  interval_cases q <;> omega

/-- Every row of the whole array is one row of one chunk of one device. -/
def rowEquiv : (Fin 8 × Fin 8 × Fin 128) ≃ Fin 8192 where
  toFun p := rowOf p.1 p.2.1 p.2.2
  invFun R := (devOf R, chunkOf R, placeOf R)
  left_inv p := Prod.ext (devOf_rowOf ..) (Prod.ext (chunkOf_rowOf ..) (placeOf_rowOf ..))
  right_inv R := rowOf_devOf R

/-- The correspondence in the one direction. -/
theorem rowEquiv_apply (d k : Fin 8) (r : Fin 128) : rowEquiv (d, k, r) = rowOf d k r := rfl

/-- A sum over the rows of the whole array, split so. -/
theorem sum_rows (f : Fin 8192 → EReal) : ∑ d : Fin 8, ∑ k : Fin 8, ∑ r : Fin 128, f (rowOf d k r) = ∑ R : Fin 8192, f R := by
  rw [← Equiv.sum_comp rowEquiv f, Fintype.sum_prod_type]
  refine Finset.sum_congr rfl fun d _ => ?_
  rw [Fintype.sum_prod_type]
  refine Finset.sum_congr rfl fun k _ => Finset.sum_congr rfl fun r _ => ?_
  rw [rowEquiv_apply]

end Cert.Rows

end
-- ==== Proof.KernelIdealValue.lean ====
/- What the kernel computes over the extended reals: each chunk's two sums, the rows that are sent, the slots that arrive, and
the result as a sum over the rows of the whole arrays. -/
module

public import proofs.«01_k».proof.Proof.KernelIdealRun
public import proofs.«01_k».proof.Proof.Rows
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Layout

@[expose] public section

noncomputable section

namespace Cert.KernelIdealProof

open Cert.KernelIdeal Cert.KernelIdeal.Gen Cert.Rows
open Idealize.ShloMosaic
open Idealize.ShloMosaic.TcCoe
open Idealize.ShloMosaic.ValueIdx
open scoped BigOperators

/-! ## One chunk -/

/-- A chunk's contribution to `dgamma` -/
def dgv (x y : FVec Ideal S128x2048 .f32) : FVec Ideal S2048 .f32 := k0_pay3 y (k0_pay1 x) (k0_pay2 x)
/-- and to `dbeta`. -/
def dbv (y : FVec Ideal S128x2048 .f32) : FVec Ideal S2048 .f32 := k0_pay4 y

/-- The sum of a row of a chunk. -/
theorem rowSum_apply (x : FVec Ideal S128x2048 .f32) (h : S128x2048.Reduces [1] S128) (hφ : FKind.Formats .f32)
    (hacc : (0x00000000#32 : BitVec 32) = FKind.add.neutral .f32 hφ) (r : Fin 128) :
    multiReduction .add [1] S128 x 0x00000000#32 h hφ hacc (ix1 r) = ∑ j : Fin 2048, (x (ix2 r j) : EReal) := by
  refine (Ideal.multiReduction_add_single x _ h hφ hacc (ix1 r)).trans (Finset.sum_congr rfl fun j _ => congrArg x (funext fun a => Fin.ext ?_))
  match a with
  | ⟨0, _⟩ => rfl
  | ⟨1, _⟩ => rfl

/-- The sum of a column of a chunk. -/
theorem colSum_apply (x : FVec Ideal S128x2048 .f32) (h : S128x2048.Reduces [0] S2048) (hφ : FKind.Formats .f32)
    (hacc : (0x00000000#32 : BitVec 32) = FKind.add.neutral .f32 hφ) (j : Fin 2048) :
    multiReduction .add [0] S2048 x 0x00000000#32 h hφ hacc (ix1 j) = ∑ r : Fin 128, (x (ix2 r j) : EReal) := by
  refine (Ideal.multiReduction_add_single x _ h hφ hacc (ix1 j)).trans (Finset.sum_congr rfl fun r _ => congrArg x (funext fun a => Fin.ext ?_))
  match a with
  | ⟨0, _⟩ => rfl
  | ⟨1, _⟩ => rfl

/-- The sums of the rows, as a column. -/
def rowSums (x : FVec Ideal S128x2048 .f32) : FVec Ideal S128x1 .f32 :=
  shapeCast S128x1 (multiReduction .add [1] S128 x 0x00000000#32 reduces_S128x2048_S128 (.inl rfl) rfl : FVec Ideal S128 .f32) shapeCasts_S128_S128x1

/-- An entry of that column. -/
theorem rowSums_apply (x : FVec Ideal S128x2048 .f32) (r : Fin 128) : rowSums x (ix2 r 0) = ∑ j : Fin 2048, (x (ix2 r j) : EReal) :=
  (shapeCast_a_a1_apply _ shapeCasts_S128_S128x1 r 0).trans (rowSum_apply x _ _ _ r)

/-- A column repeated along the rows. -/
theorem column_apply (v : FVec Ideal S128x1 .f32) (h : S128x1.Broadcasts S128x2048) (r : Fin 128) (j : Fin 2048) :
    broadcastTo S128x2048 v h (ix2 r j) = v (ix2 r 0) :=
  broadcastTo_apply v h _ _ fun a => by
    match a with
    | ⟨0, _⟩ => rfl
    | ⟨1, _⟩ => rfl

/-- A row less its mean. -/
theorem pay1_apply (x : FVec Ideal S128x2048 .f32) (r : Fin 128) (j : Fin 2048) :
    k0_pay1 x (ix2 r j) = (x (ix2 r j) : EReal) - mean fun j => x (ix2 r j) := by
  show (x (ix2 r j) : EReal) - broadcastTo S128x2048 (divf (rowSums x) (broadcast S128x1 (cols : Elt Ideal .f32)) : FVec Ideal S128x1 .f32) broadcasts_S128x1_S128x2048 (ix2 r j) = _
  rw [column_apply]
  show (x (ix2 r j) : EReal) - Ideal.div (rowSums x (ix2 r 0)) cols = _
  rw [rowSums_apply]
  rfl

/-- Its square. -/
theorem pay2_apply (x : FVec Ideal S128x2048 .f32) (r : Fin 128) (j : Fin 2048) :
    k0_pay2 x (ix2 r j) = ((x (ix2 r j) : EReal) - mean fun j => x (ix2 r j)) * (x (ix2 r j) - mean fun j => x (ix2 r j)) := by
  show (k0_pay1 (F := Ideal) x (ix2 r j) * k0_pay1 (F := Ideal) x (ix2 r j) : EReal) = _
  rw [pay1_apply]

/-- A chunk's `dgamma` is the sum over its rows of `dy` times the normalised entry. -/
theorem dgv_apply (x y : FVec Ideal S128x2048 .f32) (j : Fin 2048) :
    dgv x y (ix1 j) = ∑ r : Fin 128, (y (ix2 r j) : EReal) * hat (fun j => x (ix2 r j)) j := by
  refine (colSum_apply (mulf y (mulf (k0_pay1 x) (broadcastTo S128x2048
    (rsqrt (addf (divf (rowSums (k0_pay2 x)) (broadcast S128x1 (cols : Elt Ideal .f32))) (broadcast S128x1 (eps : Elt Ideal .f32))) : FVec Ideal S128x1 .f32) broadcasts_S128x1_S128x2048)))
    reduces_S128x2048_S2048 (.inl rfl) rfl j).trans (Finset.sum_congr rfl fun r _ => ?_)
  rw [mulf_apply, mulf_apply, column_apply, pay1_apply]
  show (y (ix2 r j) : EReal) * (_ * Ideal.rsqrt (Ideal.div (rowSums (k0_pay2 x) (ix2 r 0)) cols + eps)) = _
  rw [rowSums_apply]
  simp only [pay2_apply]
  rfl

/-- A chunk's `dbeta` is the sum of its rows. -/
theorem dbv_apply (y : FVec Ideal S128x2048 .f32) (j : Fin 2048) : dbv y (ix1 j) = ∑ r : Fin 128, (y (ix2 r j) : EReal) :=
  colSum_apply y reduces_S128x2048_S2048 (.inl rfl) rfl j

/-! ## The rows that are sent -/

variable (m : (ℓ : Loc nD τ sig) → Buf (Elt Ideal) ℓ)

/-- Chunk `k`'s two contributions on device `d`, -/
def dgAt (d : Dev nD) (k : Fin 8) (i : S2048.Idx) : EReal := dgv (xin m d k) (yin m d k) i
def dbAt (d : Dev nD) (k : Fin 8) (i : S2048.Idx) : EReal := dbv (yin m d k) i

/-- The first row of the first accumulator is the sum over the first six chunks of their `dgamma`, -/
theorem rowA0_eq (d : Dev nD) : rowA0 m d = shapeCast S1x2048 (fun i : S2048.Idx =>
    dgAt m d 0 i + dgAt m d 1 i + dgAt m d 2 i + dgAt m d 3 i + dgAt m d 4 i + dgAt m d 5 i) shapeCasts_S2048_S1x2048 := rfl

/-- the second that of their `dbeta`; -/
theorem rowA1_eq (d : Dev nD) : rowA1 m d = shapeCast S1x2048 (fun i : S2048.Idx =>
    dbAt m d 0 i + dbAt m d 1 i + dbAt m d 2 i + dbAt m d 3 i + dbAt m d 4 i + dbAt m d 5 i) shapeCasts_S2048_S1x2048 := rfl

/-- the first row of the second accumulator is the sum over the last two, -/
theorem rowB0_eq (d : Dev nD) : rowB0 m d = shapeCast S1x2048 (fun i : S2048.Idx => dgAt m d 6 i + dgAt m d 7 i) shapeCasts_S2048_S1x2048 := rfl

/-- and the second likewise. -/
theorem rowB1_eq (d : Dev nD) : rowB1 m d = shapeCast S1x2048 (fun i : S2048.Idx => dbAt m d 6 i + dbAt m d 7 i) shapeCasts_S2048_S1x2048 := rfl

/-- The same at a column: the first accumulator's first row -/
theorem rowA0_apply (d : Dev nD) (j : Fin 2048) : rowA0 m d (ix2 0 j) =
    dgAt m d 0 (ix1 j) + dgAt m d 1 (ix1 j) + dgAt m d 2 (ix1 j) + dgAt m d 3 (ix1 j) + dgAt m d 4 (ix1 j) + dgAt m d 5 (ix1 j) :=
  (congrFun (rowA0_eq m d) _).trans (shapeCast_a_1a_apply _ shapeCasts_S2048_S1x2048 0 j)

/-- and second row, -/
theorem rowA1_apply (d : Dev nD) (j : Fin 2048) : rowA1 m d (ix2 0 j) =
    dbAt m d 0 (ix1 j) + dbAt m d 1 (ix1 j) + dbAt m d 2 (ix1 j) + dbAt m d 3 (ix1 j) + dbAt m d 4 (ix1 j) + dbAt m d 5 (ix1 j) :=
  (congrFun (rowA1_eq m d) _).trans (shapeCast_a_1a_apply _ shapeCasts_S2048_S1x2048 0 j)

/-- and the second accumulator's first row -/
theorem rowB0_apply (d : Dev nD) (j : Fin 2048) : rowB0 m d (ix2 0 j) = dgAt m d 6 (ix1 j) + dgAt m d 7 (ix1 j) :=
  (congrFun (rowB0_eq m d) _).trans (shapeCast_a_1a_apply _ shapeCasts_S2048_S1x2048 0 j)

/-- and second row. -/
theorem rowB1_apply (d : Dev nD) (j : Fin 2048) : rowB1 m d (ix2 0 j) = dbAt m d 6 (ix1 j) + dbAt m d 7 (ix1 j) :=
  (congrFun (rowB1_eq m d) _).trans (shapeCast_a_1a_apply _ shapeCasts_S2048_S1x2048 0 j)

/-- Of two rows stacked, row 0 is the first -/
theorem stack_zero (r0 r1 : FVec Ideal S1x2048 .bf16) (o : Vec Ideal S2x2048 .bf16) (j : Fin 2048) : stack r0 r1 o (ix2 0 j) = r0 (ix2 0 j) := by
  unfold stack updateSlice
  rw [dif_neg, dif_pos]
  · refine congrArg r0 (funext fun a => Fin.ext ?_)
    match a with
    | ⟨0, _⟩ => rfl
    | ⟨1, _⟩ => rfl
  · intro a
    match a with
    | ⟨0, _⟩ => exact ⟨Nat.zero_le _, show 0 < 0 + 1 by omega⟩
    | ⟨1, _⟩ => exact ⟨Nat.zero_le _, show j.val < 0 + 2048 by omega⟩
  · intro h
    have h4 : 1 ≤ 0 := (h 0).1
    omega

/-- and row 1 the second. -/
theorem stack_one (r0 r1 : FVec Ideal S1x2048 .bf16) (o : Vec Ideal S2x2048 .bf16) (j : Fin 2048) : stack r0 r1 o (ix2 1 j) = r1 (ix2 0 j) := by
  unfold stack updateSlice
  rw [dif_pos]
  · refine congrArg r1 (funext fun a => Fin.ext ?_)
    match a with
    | ⟨0, _⟩ => rfl
    | ⟨1, _⟩ => rfl
  · intro a
    match a with
    | ⟨0, _⟩ => exact ⟨show 1 ≤ 1 by omega, show 1 < 1 + 1 by omega⟩
    | ⟨1, _⟩ => exact ⟨Nat.zero_le _, show j.val < 0 + 2048 by omega⟩

/-- What a device holds of the two sums over its own rows. -/
def own (d : Dev nD) : S2x2048.Idx → EReal := fun i => (accA m d i : EReal) + accB m d i

/-- Row 0 of it is the sum of all eight chunks' `dgamma`, -/
theorem own_zero (d : Dev nD) (j : Fin 2048) : own m d (ix2 0 j) = ∑ k : Fin 8, dgAt m d k (ix1 j) := by
  unfold own accA accB
  rw [stack_zero, stack_zero, rowA0_apply, rowB0_apply, Fin.sum_univ_eight]
  ac_rfl

/-- row 1 of their `dbeta`. -/
theorem own_one (d : Dev nD) (j : Fin 2048) : own m d (ix2 1 j) = ∑ k : Fin 8, dbAt m d k (ix1 j) := by
  unfold own accA accB
  rw [stack_one, stack_one, rowA1_apply, rowB1_apply, Fin.sum_univ_eight]
  ac_rfl

/-! ## The slots that arrive -/

/-- A slot of the first landing buffer holds what its partner sent, -/
theorem slot_gotA (c : Dev nD) (s : Fin 8) : shapeCast S2x2048 (aGot m c s) shapeCasts_S1x2x2048_S2x2048 = accA m (peer c s) := by
  have e : (slotA s).view.read (Elt Ideal) (aLand m c s) = accA m (peer c s) := View.read_write_univ _ _
  exact e
/-- and so does a slot of the second. -/
theorem slot_gotB (c : Dev nD) (s : Fin 8) : shapeCast S2x2048 (bGot m c s) shapeCasts_S1x2x2048_S2x2048 = accB m (peer c s) := by
  have e : (slotB s).view.read (Elt Ideal) (bLand m c s) = accB m (peer c s) := View.read_write_univ _ _
  exact e

/-- At place 0 a device is its own partner. -/
theorem peer_zero (c : Dev nD) : peer c 0 = c := by revert c; decide

/-- The eight partners of a device are all the devices. -/
theorem sum_peer (c : Dev nD) (f : Dev nD → EReal) : ∑ d : Dev nD, f d = ∑ s : Fin 8, f (peer c s) :=
  (Equiv.sum_comp (Equiv.ofBijective (peer c) ((peer_inj c).bijective_of_finite)) f).symm

/-- The result on any device is the sum of what all the devices hold. -/
theorem outAt_apply (c : Dev nD) (i : S2x2048.Idx) : outAt m c i = ∑ d : Dev nD, own m d i := by
  rw [sum_peer c, Fin.sum_univ_eight, peer_zero]
  have e : outAt m c i = (accA m c i : EReal) + accB m c i + accA m (peer c 4) i + accA m (peer c 2) i + accA m (peer c 1) i
      + accA m (peer c 6) i + accA m (peer c 5) i + accA m (peer c 3) i + accA m (peer c 7) i + accB m (peer c 4) i + accB m (peer c 2) i
      + accB m (peer c 1) i + accB m (peer c 6) i + accB m (peer c 5) i + accB m (peer c 3) i + accB m (peer c 7) i := by
    simp only [← slot_gotA, ← slot_gotB]
    rfl
  rw [e]
  unfold own
  ac_rfl

/-! ## The chunks as rows of the whole arrays -/

/-- A device's block of a whole array of 8192 rows. -/
abbrev blk (c : Dev nD) (X : (⟨2, ![8192, 2048]⟩ : Shape).Idx → EReal) : (⟨2, ![4096, 2048]⟩ : Shape).Idx → EReal :=
  Layout.blockN ⟨2, ![4096, 2048]⟩ ⟨2, ![8192, 2048]⟩ (Layout.meshBlock [2, 2, 2] ![[1], []] c) X

/-- Row `r` of the rows that device `d` fetches as chunk `k` is that row of the whole array. -/
theorem blk_chunk (d : Dev nD) (k : Fin 8) (X : (⟨2, ![8192, 2048]⟩ : Shape).Idx → EReal) (r : Fin 128) (j : Fin 2048) :
    blk d X ((rG d k).emb (ix2 r j)) = X (ix2 (rowOf d k r) j) := by
  have ho : ∀ a, (k0_off1 d (BitVec.ofNat 32 (128 * k.val))) a = (![2048 * (d.val / 4) + 1024 * (d.val % 2) + 128 * k.val, 0] : Fin 2 → ℕ) a :=
    fun a => congrFun (k0_off1_eq d k) a
  have hb : ∀ d : Dev nD, ((Layout.meshBlock [2, 2, 2] ![[1], []] d) (0 : Fin 2)).val = d.val / 2 % 2 := by decide
  have hb1 : ∀ d : Dev nD, ((Layout.meshBlock [2, 2, 2] ![[1], []] d) (1 : Fin 2)).val = 0 := by decide
  refine congrArg X (funext fun a => Fin.ext ?_)
  match a with
  | ⟨0, _⟩ =>
    show ((Layout.meshBlock [2, 2, 2] ![[1], []] d) (0 : Fin 2)).val * 4096 + (k0_off1 d (BitVec.ofNat 32 (128 * k.val)) 0 + 1 * r.val) = (rowOf d k r).val
    rw [ho 0, hb d]
    show d.val / 2 % 2 * 4096 + (2048 * (d.val / 4) + 1024 * (d.val % 2) + 128 * k.val + 1 * r.val) = 4096 * (d.val / 2 % 2) + (2048 * (d.val / 4) + 1024 * (d.val % 2) + 128 * k.val + r.val)
    omega
  | ⟨1, _⟩ =>
    show ((Layout.meshBlock [2, 2, 2] ![[1], []] d) (1 : Fin 2)).val * 2048 + (k0_off1 d (BitVec.ofNat 32 (128 * k.val)) 1 + 1 * j.val) = j.val
    rw [ho 1, hb1 d]
    show 0 * 2048 + (0 + 1 * j.val) = j.val
    omega

variable (X Y : (⟨2, ![8192, 2048]⟩ : Shape).Idx → EReal)
  (hX : ∀ c : Dev nD, m ((c.tc : Thread nD τ).loc main_arg0) = blk c X)
  (hY : ∀ c : Dev nD, m ((c.tc : Thread nD τ).loc main_arg1) = blk c Y)

include hX in
/-- A chunk of `x` holds rows of the whole array, -/
theorem xin_apply (d : Dev nD) (k : Fin 8) (r : Fin 128) (j : Fin 2048) : xin m d k (ix2 r j) = X (ix2 (rowOf d k r) j) := by
  rw [← blk_chunk d k X r j, ← hX d]
  rfl

include hY in
/-- and so does a chunk of `dy`. -/
theorem yin_apply (d : Dev nD) (k : Fin 8) (r : Fin 128) (j : Fin 2048) : yin m d k (ix2 r j) = Y (ix2 (rowOf d k r) j) := by
  rw [← blk_chunk d k Y r j, ← hY d]
  rfl

include hX hY in
/-- Row 0 of the result: `dgamma` over the rows of the whole arrays. -/
theorem outAt_zero (c : Dev nD) (j : Fin 2048) :
    outAt m c (ix2 0 j) = ∑ R : Fin 8192, Y (ix2 R j) * hat (fun j => X (ix2 R j)) j := by
  rw [outAt_apply, ← sum_rows]
  refine Finset.sum_congr rfl fun d _ => ?_
  rw [own_zero]
  refine Finset.sum_congr rfl fun k _ => ?_
  unfold dgAt
  rw [dgv_apply]
  refine Finset.sum_congr rfl fun r _ => ?_
  simp only [xin_apply m X hX, yin_apply m Y hY]

include hY in
/-- Row 1 of the result: `dbeta` over the rows of the whole array. -/
theorem outAt_one (c : Dev nD) (j : Fin 2048) : outAt m c (ix2 1 j) = ∑ R : Fin 8192, Y (ix2 R j) := by
  rw [outAt_apply, ← sum_rows]
  refine Finset.sum_congr rfl fun d _ => ?_
  rw [own_one]
  refine Finset.sum_congr rfl fun k _ => ?_
  unfold dbAt
  rw [dbv_apply]
  refine Finset.sum_congr rfl fun r _ => ?_
  rw [yin_apply m Y hY]

end Cert.KernelIdealProof

end
-- ==== Proof.ReferenceValue.lean ====
/- What the reference computes over the extended reals: its result, operation by operation, read as the same two sums over the
rows of the whole arrays. -/
module

public import proofs.«01_k».proof.Proof.Gen.ReferenceIdeal.Run
public import proofs.«01_k».proof.Proof.Rows
public import Idealize.ShloMosaic.Lib.ValueIdx
public import Idealize.ShloMosaic.Lib.IdealHost
public import Idealize.ShloMosaic.Lib.Pipeline.Value

@[expose] public section

noncomputable section

namespace Cert.ReferenceValue

open Cert.ReferenceIdeal Cert.ReferenceIdeal.Gen Cert.Rows
open Idealize.ShloMosaic Idealize.ShloMosaic.TcCoe Idealize.SL.Sem
open Idealize.ShloMosaic.ValueIdx
open scoped BigOperators

/-- A scalar of the program, -/
abbrev scal (b : BitVec 32) : FVec Ideal S_ .f32 := constant S_ .f32 b
/-- and a scalar as a column. -/
abbrev colC (x : FVec Ideal S_ .f32) : FVec Ideal S8192x1 .f32 := broadcastInDim S8192x1 ![] bcast_S_S8192x1 x
/-- The rows' sums, as a column. -/
def rowSums (x : FVec Ideal S8192x2048 .f32) : FVec Ideal S8192x1 .f32 :=
  broadcastInDim S8192x1 ![0] bcast_S8192_S8192x1_0
    (Host.reduceAdd x (scal 0x00000000#32) reducesTo_S8192x2048_S8192_d1 h_S_ : FVec Ideal S8192 .f32)
/-- The columns' sums, as a row. -/
def colSums (x : FVec Ideal S8192x2048 .f32) : FVec Ideal S1x2048 .f32 :=
  broadcastInDim S1x2048 ![1] bcast_S2048_S1x2048_1
    (Host.reduceAdd x (scal 0x00000000#32) reducesTo_S8192x2048_S2048_d0 h_S_ : FVec Ideal S2048 .f32)
/-- A column repeated along the rows. -/
def spread (v : FVec Ideal S8192x1 .f32) : FVec Ideal S8192x2048 .f32 := broadcastInDim S8192x2048 ![0, 1] bcast_S8192x1_S8192x2048_0_1 v
/-- Every entry less its row's mean. -/
def diffs (x : FVec Ideal S8192x2048 .f32) : FVec Ideal S8192x2048 .f32 := subf x (spread (Host.divf (rowSums x) (colC (scal 0x45000000#32))))
/-- The number the variance is divided by: the number of columns less a zero. -/
def count : FVec Ideal S_ .f32 := subf (scal 0x45000000#32) (sitofp .f32 (constantI S_ 32 0#32))
/-- The rows' variances, with the branch for a count that is not positive. -/
def vars (x : FVec Ideal S8192x2048 .f32) : FVec Ideal S8192x1 .f32 :=
  select (broadcastInDim S8192x1 ![] bcast_S_S8192x1 (cmpf .ogt count (scal 0x00000000#32))) (Host.divf (rowSums (mulf (diffs x) (diffs x))) (colC count))
    (colC (id (scal 0x7FC00000#32)))
/-- One over the square roots. -/
def scales (x : FVec Ideal S8192x2048 .f32) : FVec Ideal S8192x1 .f32 :=
  Host.divf (colC (scal 0x3F800000#32)) (Host.sqrt (addf (vars x) (colC (scal 0x3727C5AC#32))))
/-- The whole result. -/
def out (x y : FVec Ideal S8192x2048 .f32) : FVec Ideal S2x2048 .f32 :=
  concatenate S2x2048 0 [⟨S1x2048, colSums (mulf y (mulf (diffs x) (spread (scales x))))⟩, ⟨S1x2048, colSums y⟩] concatenates_S1x2048_S1x2048_S2x2048_d0

/-- The reference's run ends with this result, its arguments unchanged. -/
theorem run_out (m : (ℓ : Loc nD τ sig) → Buf (Elt Ideal) ℓ) (ρ : Dev nD → PrngReg) :
    θ_run defs (onTc main) ⟨m, fun _ => 0, ρ⟩ fun r => ∀ c : Dev nD,
      r.2.mem ((c.tc : Thread nD τ).loc main_v19) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- Removing the columns leaves the rows' shape, -/
theorem reducesRow : S8192x2048.Reduces [1] S8192 := by decide
/-- and removing the rows leaves the columns'. -/
theorem reducesCol : S8192x2048.Reduces [0] S2048 := by decide

/-- A scalar as a column is that scalar everywhere. -/
theorem colC_apply (x : FVec Ideal S_ .f32) (i : S8192x1.Idx) : colC x i = x ix0 := broadcastInDim_scalar_apply _ x i

/-- A row's sum at its place, -/
theorem rowSums_apply (x : FVec Ideal S8192x2048 .f32) (R : Fin 8192) : rowSums x (ix2 R 0) = ∑ j : Fin 2048, (x (ix2 R j) : EReal) := by
  unfold rowSums
  rw [broadcastInDim_apply (s := S8192) (t := S8192x1) _ _ _ (ix2 R 0) (ix1 R) ?_]; rotate_left
  · intro a
    match a with
    | ⟨0, _⟩ => rfl
  · rw [hostReduceAdd_apply, Ideal.hostReduceAdd_single (s := S8192x2048) _ reducesRow]
    show Ideal.ofBits .f32 0x00000000#32 + _ = _
    rw [Ideal.ofBits_zero_f32, zero_add]
    refine Finset.sum_congr rfl fun j _ => congrArg x (funext fun a => Fin.ext ?_)
    match a with
    | ⟨0, _⟩ => rfl
    | ⟨1, _⟩ => rfl

/-- and a column's. -/
theorem colSums_apply (x : FVec Ideal S8192x2048 .f32) (j : Fin 2048) : colSums x (ix2 0 j) = ∑ R : Fin 8192, (x (ix2 R j) : EReal) := by
  unfold colSums
  rw [broadcastInDim_apply (s := S2048) (t := S1x2048) _ _ _ (ix2 0 j) (ix1 j) ?_]; rotate_left
  · intro a
    match a with
    | ⟨0, _⟩ => rfl
  · rw [hostReduceAdd_apply, Ideal.hostReduceAdd_single (s := S8192x2048) _ reducesCol]
    show Ideal.ofBits .f32 0x00000000#32 + _ = _
    rw [Ideal.ofBits_zero_f32, zero_add]
    refine Finset.sum_congr rfl fun R _ => congrArg x (funext fun a => Fin.ext ?_)
    match a with
    | ⟨0, _⟩ => rfl
    | ⟨1, _⟩ => rfl

/-- A repeated column reads its row's entry. -/
theorem spread_apply (v : FVec Ideal S8192x1 .f32) (R : Fin 8192) (j : Fin 2048) : spread v (ix2 R j) = v (ix2 R 0) := by
  unfold spread
  rw [broadcastInDim_apply (s := S8192x1) (t := S8192x2048) _ _ _ (ix2 R j) (ix2 R 0) ?_]
  intro a
  match a with
  | ⟨0, _⟩ => rfl
  | ⟨1, _⟩ => rfl

/-- An entry less its row's mean. -/
theorem diffs_apply (x : FVec Ideal S8192x2048 .f32) (R : Fin 8192) (j : Fin 2048) :
    diffs x (ix2 R j) = (x (ix2 R j) : EReal) - mean fun j => x (ix2 R j) := by
  show (x (ix2 R j) : EReal) - spread (Host.divf (rowSums x) (colC (scal 0x45000000#32))) (ix2 R j) = _
  rw [spread_apply]
  show (x (ix2 R j) : EReal) - Ideal.div (rowSums x (ix2 R 0)) (colC (scal 0x45000000#32) (ix2 R 0)) = _
  rw [rowSums_apply, colC_apply]
  rfl

/-- The count is the number of columns, -/
theorem count_apply : count ix0 = cols := by
  show (cols : EReal) - (((0#32 : BitVec 32).toInt : ℝ) : EReal) = cols
  simp

/-- so that the branch for a positive count is taken. -/
theorem count_pos : (cmpf .ogt count (scal 0x00000000#32) : IVec S_ 1) ix0 = 1#1 := by
  show BitVec.ofBool (decide (Ideal.ofBits .f32 0x00000000#32 < (count ix0 : EReal))) = 1#1
  rw [count_apply, Ideal.ofBits_zero_f32, cols_eq, decide_eq_true (EReal.coe_pos.mpr (by norm_num))]
  rfl

/-- So the variances are the rows' variances, -/
theorem vars_apply (x : FVec Ideal S8192x2048 .f32) (R : Fin 8192) : vars x (ix2 R 0) = var fun j => x (ix2 R j) := by
  unfold vars
  rw [select_apply, broadcastInDim_scalar_apply, count_pos]
  show Ideal.div (rowSums (mulf (diffs x) (diffs x)) (ix2 R 0)) (colC count (ix2 R 0)) = _
  rw [rowSums_apply, colC_apply, count_apply]
  simp only [mulf_apply, diffs_apply]
  rfl

/-- and one over the square root is the reciprocal square root. -/
theorem scales_apply (x : FVec Ideal S8192x2048 .f32) (R : Fin 8192) :
    scales x (ix2 R 0) = Ideal.rsqrt ((var fun j => x (ix2 R j)) + eps) := by
  show Ideal.div (colC (scal 0x3F800000#32) (ix2 R 0)) (Ideal.sqrt ((vars x (ix2 R 0) : EReal) + colC (scal 0x3727C5AC#32) (ix2 R 0))) = _
  rw [vars_apply, colC_apply, colC_apply]
  show Ideal.div (Ideal.ofBits .f32 0x3F800000#32) (Ideal.sqrt ((var fun j => x (ix2 R j)) + eps)) = _
  rw [Ideal.ofBits_one_f32, one_div_sqrt (var_eps_pos _)]

/-- Row 0 of the result: `dgamma`. -/
theorem out_zero (x y : FVec Ideal S8192x2048 .f32) (j : Fin 2048) :
    out x y (ix2 0 j) = ∑ R : Fin 8192, (y (ix2 R j) : EReal) * hat (fun j => x (ix2 R j)) j := by
  unfold out
  rw [concatenate_pair_apply_left (t := S2x2048) (s₁ := S1x2048) (s₂ := S1x2048) _ _ _ _ (ix2 0 j) rfl (ix2 0 j) ?_]; rotate_left
  · intro b
    match b with
    | ⟨0, _⟩ => rfl
    | ⟨1, _⟩ => rfl
  · rw [colSums_apply]
    refine Finset.sum_congr rfl fun R _ => ?_
    rw [mulf_apply, mulf_apply, diffs_apply, spread_apply, scales_apply]
    rfl

/-- Row 1 of the result: `dbeta`. -/
theorem out_one (x y : FVec Ideal S8192x2048 .f32) (j : Fin 2048) : out x y (ix2 1 j) = ∑ R : Fin 8192, (y (ix2 R j) : EReal) := by
  unfold out
  rw [concatenate_pair_apply_right (t := S2x2048) (s₁ := S1x2048) (s₂ := S1x2048) _ _ _ _ (ix2 1 j) rfl rfl (ix2 0 j) ?_ rfl, colSums_apply]
  intro b hb
  match b with
  | ⟨0, _⟩ => exact absurd rfl hb
  | ⟨1, _⟩ => rfl

end Cert.ReferenceValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel on eight devices: its run with the result's value dropped. -/
theorem frame_kernel : Cert.quiescent_Kernel := fun m ρ _ =>
  (θ_run Cert.Kernel.defs _ _).mono (fun _ h => ⟨fun c => (h.1 c).2, h.2⟩) (Cert.KernelProof.run_out m ρ)

/-- The same kernel over the extended reals. -/
theorem frame_ideal : Cert.quiescent_KernelIdeal := fun m ρ _ =>
  (θ_run Cert.KernelIdeal.defs _ _).mono (fun _ h => ⟨fun c => (h.1 c).2, h.2⟩) (Cert.KernelIdealProof.run_out m ρ)

/-- The reference writes none of its arguments and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- At equal arguments the two programs' results are equal, entry by entry. -/
theorem value_eq (m : (ℓ : Loc Cert.KernelIdeal.nD Cert.KernelIdeal.τ Cert.KernelIdeal.sig) → Buf (Elt Ideal) ℓ)
    (X Y : (⟨2, ![8192, 2048]⟩ : Shape).Idx → EReal)
    (hX : ∀ c : Dev Cert.KernelIdeal.nD, m ((c.tc : Thread Cert.KernelIdeal.nD Cert.KernelIdeal.τ).loc Cert.KernelIdeal.main_arg0) = Cert.KernelIdealProof.blk c X)
    (hY : ∀ c : Dev Cert.KernelIdeal.nD, m ((c.tc : Thread Cert.KernelIdeal.nD Cert.KernelIdeal.τ).loc Cert.KernelIdeal.main_arg1) = Cert.KernelIdealProof.blk c Y)
    (c : Dev Cert.KernelIdeal.nD) : Cert.KernelIdealProof.outAt m c = Cert.ReferenceValue.out X Y := by
  funext i
  obtain ⟨a, j, rfl⟩ : ∃ (a : Fin 2) (j : Fin 2048), i = ValueIdx.ix2 a j := ⟨i 0, i 1, by
    funext b
    match b with
    | ⟨0, _⟩ => rfl
    | ⟨1, _⟩ => rfl⟩
  match a with
  | ⟨0, _⟩ => exact (Cert.KernelIdealProof.outAt_zero m X Y hX hY c j).trans (Cert.ReferenceValue.out_zero X Y j).symm
  | ⟨1, _⟩ => exact (Cert.KernelIdealProof.outAt_one m Y hY c j).trans (Cert.ReferenceValue.out_one X Y j).symm

/-- Over the extended reals the kernel on eight devices and the reference on one end with the same result. -/
theorem algebraic : Cert.algebraic_KernelIdeal_ReferenceIdeal := fun m g m' g' _ h =>
  ⟨Cert.ReferenceValue.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).1.trans (value_eq m _ _ (fun c => (h c).1) (fun c => (h c).2.1) c), (hr.1 c).2⟩)
      (Cert.KernelIdealProof.run_out m g),
    (θ_run Cert.ReferenceIdeal.defs _ _).mono (fun _ hr => hr 0) (Cert.ReferenceValue.run_out m' g')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
